-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_3) = v0 c
          ∧ r.2.mem ((c.tc : Thread Cert.ReferenceIdeal.nD Cert.ReferenceIdeal.τ).loc Cert.ReferenceIdeal.main_v7_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x512 : Shape := ⟨3, ![128, 512, 512]⟩
abbrev S512x4096 : Shape := ⟨2, ![512, 4096]⟩
abbrev S1024x4096 : Shape := ⟨2, ![1024, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S128x8x512 : Shape := ⟨3, ![128, 8, 512]⟩
abbrev S1024x512 : Shape := ⟨2, ![1024, 512]⟩
abbrev S128x4096 : Shape := ⟨2, ![128, 4096]⟩
abbrev S128x256 : Shape := ⟨2, ![128, 256]⟩

abbrev nBuf : Space → Nat
  | .hbm => 195
  | .vmem => 11
  | .smem => 0
  | _ => 0

abbrev hbmTy0_0 (i : Nat) : BufTy := match i % 128 with
  | 0 => ⟨S128x512x512, .f32⟩
  | 1 => ⟨S512x4096, .f32⟩
  | 2 => ⟨S1024x4096, .f32⟩
  | 3 => ⟨S4096, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i1⟩
  | 37 => ⟨S_, .i32⟩
  | 38 => ⟨S_, .i1⟩
  | 39 => ⟨S4096, .i1⟩
  | 40 => ⟨S4096, .i1⟩
  | 41 => ⟨S4096, .i1⟩
  | 42 => ⟨S4096, .i32⟩
  | 43 => ⟨S4096, .i32⟩
  | 44 => ⟨S4096, .i32⟩
  | 45 => ⟨S_, .i32⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i1⟩
  | 53 => ⟨S4096, .i32⟩
  | 54 => ⟨S4096, .i32⟩
  | 55 => ⟨S_, .i32⟩
  | 56 => ⟨S4096, .i32⟩
  | 57 => ⟨S4096, .i1⟩
  | 58 => ⟨S4096, .i1⟩
  | 59 => ⟨S_, .i32⟩
  | 60 => ⟨S4096, .i32⟩
  | 61 => ⟨S4096, .i32⟩
  | 62 => ⟨S4096, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i1⟩
  | 77 => ⟨S_, .i32⟩
  | 78 => ⟨S_, .i1⟩
  | 79 => ⟨S4096, .i1⟩
  | 80 => ⟨S4096, .i1⟩
  | 81 => ⟨S4096, .i1⟩
  | 82 => ⟨S4096, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S4096, .i32⟩
  | 92 => ⟨S4096, .i32⟩
  | 93 => ⟨S_, .i32⟩
  | 94 => ⟨S4096, .i32⟩
  | 95 => ⟨S4096, .i1⟩
  | 96 => ⟨S_, .f32⟩
  | 97 => ⟨S_, .f32⟩
  | 98 => ⟨S4096, .f32⟩
  | 99 => ⟨S4096, .f32⟩
  | 100 => ⟨S4096, .f32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S512x4096, .f32⟩
  | 110 => ⟨S4096, .f32⟩
  | 111 => ⟨S1x4096, .f32⟩
  | 112 => ⟨S512x4096, .f32⟩
  | 113 => ⟨S512x4096, .f32⟩
  | 114 => ⟨S512x4096, .bf16⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S1024x4096, .f32⟩
  | 124 => ⟨S4096, .f32⟩
  | 125 => ⟨S1x4096, .f32⟩
  | 126 => ⟨S1024x4096, .f32⟩
  | 127 => ⟨S1024x4096, .f32⟩
  | _ => ⟨S128x512x512, .f32⟩

abbrev hbmTy0_1 (i : Nat) : BufTy := match i % 128 with
  | 0 => ⟨S1024x4096, .bf16⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S4096, .f32⟩
  | 10 => ⟨S4096, .f32⟩
  | 11 => ⟨S4096, .f32⟩
  | 12 => ⟨S1x4096, .f32⟩
  | 13 => ⟨S1024, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i1⟩
  | 25 => ⟨S_, .i32⟩
  | 26 => ⟨S1024, .i32⟩
  | 27 => ⟨S1024, .i1⟩
  | 28 => ⟨S_, .i32⟩
  | 29 => ⟨S_, .i1⟩
  | 30 => ⟨S1024, .i1⟩
  | 31 => ⟨S1024, .i1⟩
  | 32 => ⟨S1024, .i1⟩
  | 33 => ⟨S1024, .i32⟩
  | 34 => ⟨S1024, .i32⟩
  | 35 => ⟨S1024, .i32⟩
  | 36 => ⟨S_, .i32⟩
  | 37 => ⟨S1024, .i32⟩
  | 38 => ⟨S1024, .i32⟩
  | 39 => ⟨S_, .i32⟩
  | 40 => ⟨S_, .i32⟩
  | 41 => ⟨S1024, .i32⟩
  | 42 => ⟨S1024, .i32⟩
  | 43 => ⟨S1024, .i32⟩
  | 44 => ⟨S_, .i32⟩
  | 45 => ⟨S1024, .i32⟩
  | 46 => ⟨S1024, .i1⟩
  | 47 => ⟨S1024, .i32⟩
  | 48 => ⟨S1024, .i32⟩
  | 49 => ⟨S_, .i32⟩
  | 50 => ⟨S1024, .i32⟩
  | 51 => ⟨S1024, .i1⟩
  | 52 => ⟨S1024, .i1⟩
  | 53 => ⟨S_, .i32⟩
  | 54 => ⟨S1024, .i32⟩
  | 55 => ⟨S1024, .i32⟩
  | 56 => ⟨S1024, .i32⟩
  | 57 => ⟨S1024, .i32⟩
  | 58 => ⟨S1024x1, .i32⟩
  | 59 => ⟨S1024, .i32⟩
  | 60 => ⟨S1x1024, .i32⟩
  | 61 => ⟨S1024x1024, .i32⟩
  | 62 => ⟨S1024x1024, .i32⟩
  | 63 => ⟨S1024x1024, .i1⟩
  | 64 => ⟨S1024x1024, .bf16⟩
  | 65 => ⟨S128x1024, .f32⟩
  | 66 => ⟨S128x1024, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | .local _ .vmem, ⟨0, _⟩ => ⟨S128x8x512, .f32⟩
  | .local _ .vmem, ⟨1, _⟩ => ⟨S128x8x512, .f32⟩
  | .local _ .vmem, ⟨2, _⟩ => ⟨S1024x1024, .bf16⟩
  | .local _ .vmem, ⟨3, _⟩ => ⟨S512x4096, .bf16⟩
  | .local _ .vmem, ⟨4, _⟩ => ⟨S1024x4096, .bf16⟩
  | .local _ .vmem, ⟨5, _⟩ => ⟨S1x4096, .f32⟩
  | .local _ .vmem, ⟨6, _⟩ => ⟨S128x1024, .f32⟩
  | .local _ .vmem, ⟨7, _⟩ => ⟨S128x1024, .f32⟩
  | .local _ .vmem, ⟨8, _⟩ => ⟨S1024x4096, .f32⟩
  | .local _ .vmem, ⟨9, _⟩ => ⟨S128x1024, .bf16⟩
  | .local _ .vmem, ⟨10, _⟩ => ⟨S128x1024, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_c : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_c_0 : Ref sig .tc := ⟨.hbm, 19, rfl⟩
abbrev main_call0_call0_v12 : Ref sig .tc := ⟨.hbm, 20, rfl⟩
abbrev main_call0_call0_v13 : Ref sig .tc := ⟨.hbm, 21, rfl⟩
abbrev main_call0_v1 : Ref sig .tc := ⟨.hbm, 22, rfl⟩
abbrev main_call0_c_0 : Ref sig .tc := ⟨.hbm, 23, rfl⟩
abbrev main_call0_call1_v0 : Ref sig .tc := ⟨.hbm, 24, rfl⟩
abbrev main_call0_call1_c : Ref sig .tc := ⟨.hbm, 25, rfl⟩
abbrev main_call0_call1_v1 : Ref sig .tc := ⟨.hbm, 26, rfl⟩
abbrev main_call0_call1_c_0 : Ref sig .tc := ⟨.hbm, 27, rfl⟩
abbrev main_call0_call1_v2 : Ref sig .tc := ⟨.hbm, 28, rfl⟩
abbrev main_call0_call1_v3 : Ref sig .tc := ⟨.hbm, 29, rfl⟩
abbrev main_call0_call1_v4 : Ref sig .tc := ⟨.hbm, 30, rfl⟩
abbrev main_call0_call1_c_1 : Ref sig .tc := ⟨.hbm, 31, rfl⟩
abbrev main_call0_call1_v5 : Ref sig .tc := ⟨.hbm, 32, rfl⟩
abbrev main_call0_call1_v6 : Ref sig .tc := ⟨.hbm, 33, rfl⟩
abbrev main_call0_call1_c_2 : Ref sig .tc := ⟨.hbm, 34, rfl⟩
abbrev main_call0_call1_v7 : Ref sig .tc := ⟨.hbm, 35, rfl⟩
abbrev main_call0_call1_v8 : Ref sig .tc := ⟨.hbm, 36, rfl⟩
abbrev main_call0_call1_c_3 : Ref sig .tc := ⟨.hbm, 37, rfl⟩
abbrev main_call0_call1_v9 : Ref sig .tc := ⟨.hbm, 38, rfl⟩
abbrev main_call0_call1_v10 : Ref sig .tc := ⟨.hbm, 39, rfl⟩
abbrev main_call0_call1_v11 : Ref sig .tc := ⟨.hbm, 40, rfl⟩
abbrev main_call0_call1_v12 : Ref sig .tc := ⟨.hbm, 41, rfl⟩
abbrev main_call0_call1_v13 : Ref sig .tc := ⟨.hbm, 42, rfl⟩
abbrev main_call0_call1_v14 : Ref sig .tc := ⟨.hbm, 43, rfl⟩
abbrev main_call0_v2 : Ref sig .tc := ⟨.hbm, 44, rfl⟩
abbrev main_call0_c_1 : Ref sig .tc := ⟨.hbm, 45, rfl⟩
abbrev main_call0_call2_v0 : Ref sig .tc := ⟨.hbm, 46, rfl⟩
abbrev main_call0_call2_v1 : Ref sig .tc := ⟨.hbm, 47, rfl⟩
abbrev main_call0_call2_v2 : Ref sig .tc := ⟨.hbm, 48, rfl⟩
abbrev main_call0_call2_v3 : Ref sig .tc := ⟨.hbm, 49, rfl⟩
abbrev main_call0_call2_v4 : Ref sig .tc := ⟨.hbm, 50, rfl⟩
abbrev main_call0_call2_v5 : Ref sig .tc := ⟨.hbm, 51, rfl⟩
abbrev main_call0_call2_v6 : Ref sig .tc := ⟨.hbm, 52, rfl⟩
abbrev main_call0_call2_v7 : Ref sig .tc := ⟨.hbm, 53, rfl⟩
abbrev main_call0_call2_v8 : Ref sig .tc := ⟨.hbm, 54, rfl⟩
abbrev main_call0_call2_c : Ref sig .tc := ⟨.hbm, 55, rfl⟩
abbrev main_call0_call2_v9 : Ref sig .tc := ⟨.hbm, 56, rfl⟩
abbrev main_call0_call2_v10 : Ref sig .tc := ⟨.hbm, 57, rfl⟩
abbrev main_call0_call2_v11 : Ref sig .tc := ⟨.hbm, 58, rfl⟩
abbrev main_call0_call2_c_0 : Ref sig .tc := ⟨.hbm, 59, rfl⟩
abbrev main_call0_call2_v12 : Ref sig .tc := ⟨.hbm, 60, rfl⟩
abbrev main_call0_call2_v13 : Ref sig .tc := ⟨.hbm, 61, rfl⟩
abbrev main_call0_v3 : Ref sig .tc := ⟨.hbm, 62, rfl⟩
abbrev main_call0_c_2 : Ref sig .tc := ⟨.hbm, 63, rfl⟩
abbrev main_call0_call3_v0 : Ref sig .tc := ⟨.hbm, 64, rfl⟩
abbrev main_call0_call3_c : Ref sig .tc := ⟨.hbm, 65, rfl⟩
abbrev main_call0_call3_v1 : Ref sig .tc := ⟨.hbm, 66, rfl⟩
abbrev main_call0_call3_c_0 : Ref sig .tc := ⟨.hbm, 67, rfl⟩
abbrev main_call0_call3_v2 : Ref sig .tc := ⟨.hbm, 68, rfl⟩
abbrev main_call0_call3_v3 : Ref sig .tc := ⟨.hbm, 69, rfl⟩
abbrev main_call0_call3_v4 : Ref sig .tc := ⟨.hbm, 70, rfl⟩
abbrev main_call0_call3_c_1 : Ref sig .tc := ⟨.hbm, 71, rfl⟩
abbrev main_call0_call3_v5 : Ref sig .tc := ⟨.hbm, 72, rfl⟩
abbrev main_call0_call3_v6 : Ref sig .tc := ⟨.hbm, 73, rfl⟩
abbrev main_call0_call3_c_2 : Ref sig .tc := ⟨.hbm, 74, rfl⟩
abbrev main_call0_call3_v7 : Ref sig .tc := ⟨.hbm, 75, rfl⟩
abbrev main_call0_call3_v8 : Ref sig .tc := ⟨.hbm, 76, rfl⟩
abbrev main_call0_call3_c_3 : Ref sig .tc := ⟨.hbm, 77, rfl⟩
abbrev main_call0_call3_v9 : Ref sig .tc := ⟨.hbm, 78, rfl⟩
abbrev main_call0_call3_v10 : Ref sig .tc := ⟨.hbm, 79, rfl⟩
abbrev main_call0_call3_v11 : Ref sig .tc := ⟨.hbm, 80, rfl⟩
abbrev main_call0_call3_v12 : Ref sig .tc := ⟨.hbm, 81, rfl⟩
abbrev main_call0_call3_v13 : Ref sig .tc := ⟨.hbm, 82, rfl⟩
abbrev main_call0_call3_v14 : Ref sig .tc := ⟨.hbm, 83, rfl⟩
abbrev main_call0_v4 : Ref sig .tc := ⟨.hbm, 84, rfl⟩
abbrev main_call0_c_3 : Ref sig .tc := ⟨.hbm, 85, rfl⟩
abbrev main_call0_v5 : Ref sig .tc := ⟨.hbm, 86, rfl⟩
abbrev main_call0_v6 : Ref sig .tc := ⟨.hbm, 87, rfl⟩
abbrev main_call0_c_4 : Ref sig .tc := ⟨.hbm, 88, rfl⟩
abbrev main_call0_v7 : Ref sig .tc := ⟨.hbm, 89, rfl⟩
abbrev main_call0_v8 : Ref sig .tc := ⟨.hbm, 90, rfl⟩
abbrev main_call0_v9 : Ref sig .tc := ⟨.hbm, 91, rfl⟩
abbrev main_call0_v10 : Ref sig .tc := ⟨.hbm, 92, rfl⟩
abbrev main_call0_c_5 : Ref sig .tc := ⟨.hbm, 93, rfl⟩
abbrev main_call0_v11 : Ref sig .tc := ⟨.hbm, 94, rfl⟩
abbrev main_call0_v12 : Ref sig .tc := ⟨.hbm, 95, rfl⟩
abbrev main_call0_cst : Ref sig .tc := ⟨.hbm, 96, rfl⟩
abbrev main_call0_cst_6 : Ref sig .tc := ⟨.hbm, 97, rfl⟩
abbrev main_call0_call4_v0 : Ref sig .tc := ⟨.hbm, 98, rfl⟩
abbrev main_call0_call4_v1 : Ref sig .tc := ⟨.hbm, 99, rfl⟩
abbrev main_call0_v13 : Ref sig .tc := ⟨.hbm, 100, rfl⟩
abbrev main_call0_c_7 : Ref sig .tc := ⟨.hbm, 101, rfl⟩
abbrev main_call0_v14 : Ref sig .tc := ⟨.hbm, 102, rfl⟩
abbrev main_call0_v15 : Ref sig .tc := ⟨.hbm, 103, rfl⟩
abbrev main_call0_c_8 : Ref sig .tc := ⟨.hbm, 104, rfl⟩
abbrev main_call0_v16 : Ref sig .tc := ⟨.hbm, 105, rfl⟩
abbrev main_call0_v17 : Ref sig .tc := ⟨.hbm, 106, rfl⟩
abbrev main_call0_v18 : Ref sig .tc := ⟨.hbm, 107, rfl⟩
abbrev main_call0_v19 : Ref sig .tc := ⟨.hbm, 108, rfl⟩
abbrev main_call0_v20 : Ref sig .tc := ⟨.hbm, 109, rfl⟩
abbrev main_call0_v21 : Ref sig .tc := ⟨.hbm, 110, rfl⟩
abbrev main_call0_v22 : Ref sig .tc := ⟨.hbm, 111, rfl⟩
abbrev main_call0_v23 : Ref sig .tc := ⟨.hbm, 112, rfl⟩
abbrev main_call0_v24 : Ref sig .tc := ⟨.hbm, 113, rfl⟩
abbrev main_call0_v25 : Ref sig .tc := ⟨.hbm, 114, rfl⟩
abbrev main_call0_c_9 : Ref sig .tc := ⟨.hbm, 115, rfl⟩
abbrev main_call0_v26 : Ref sig .tc := ⟨.hbm, 116, rfl⟩
abbrev main_call0_v27 : Ref sig .tc := ⟨.hbm, 117, rfl⟩
abbrev main_call0_c_10 : Ref sig .tc := ⟨.hbm, 118, rfl⟩
abbrev main_call0_v28 : Ref sig .tc := ⟨.hbm, 119, rfl⟩
abbrev main_call0_v29 : Ref sig .tc := ⟨.hbm, 120, rfl⟩
abbrev main_call0_v30 : Ref sig .tc := ⟨.hbm, 121, rfl⟩
abbrev main_call0_v31 : Ref sig .tc := ⟨.hbm, 122, rfl⟩
abbrev main_call0_v32 : Ref sig .tc := ⟨.hbm, 123, rfl⟩
abbrev main_call0_v33 : Ref sig .tc := ⟨.hbm, 124, rfl⟩
abbrev main_call0_v34 : Ref sig .tc := ⟨.hbm, 125, rfl⟩
abbrev main_call0_v35 : Ref sig .tc := ⟨.hbm, 126, rfl⟩
abbrev main_call0_v36 : Ref sig .tc := ⟨.hbm, 127, rfl⟩
abbrev main_call0_v37 : Ref sig .tc := ⟨.hbm, 128, rfl⟩
abbrev main_call0_c_11 : Ref sig .tc := ⟨.hbm, 129, rfl⟩
abbrev main_call0_v38 : Ref sig .tc := ⟨.hbm, 130, rfl⟩
abbrev main_call0_v39 : Ref sig .tc := ⟨.hbm, 131, rfl⟩
abbrev main_call0_c_12 : Ref sig .tc := ⟨.hbm, 132, rfl⟩
abbrev main_call0_v40 : Ref sig .tc := ⟨.hbm, 133, rfl⟩
abbrev main_call0_v41 : Ref sig .tc := ⟨.hbm, 134, rfl⟩
abbrev main_call0_v42 : Ref sig .tc := ⟨.hbm, 135, rfl⟩
abbrev main_call0_v43 : Ref sig .tc := ⟨.hbm, 136, rfl⟩
abbrev main_call0_v44 : Ref sig .tc := ⟨.hbm, 137, rfl⟩
abbrev main_call0_v45 : Ref sig .tc := ⟨.hbm, 138, rfl⟩
abbrev main_call0_v46 : Ref sig .tc := ⟨.hbm, 139, rfl⟩
abbrev main_call0_v47 : Ref sig .tc := ⟨.hbm, 140, rfl⟩
abbrev main_call0_v48 : Ref sig .tc := ⟨.hbm, 141, rfl⟩
abbrev main_call0_c_13 : Ref sig .tc := ⟨.hbm, 142, rfl⟩
abbrev main_call0_call5_v0 : Ref sig .tc := ⟨.hbm, 143, rfl⟩
abbrev main_call0_call5_c : Ref sig .tc := ⟨.hbm, 144, rfl⟩
abbrev main_call0_call5_v1 : Ref sig .tc := ⟨.hbm, 145, rfl⟩
abbrev main_call0_call5_c_0 : Ref sig .tc := ⟨.hbm, 146, rfl⟩
abbrev main_call0_call5_v2 : Ref sig .tc := ⟨.hbm, 147, rfl⟩
abbrev main_call0_call5_v3 : Ref sig .tc := ⟨.hbm, 148, rfl⟩
abbrev main_call0_call5_v4 : Ref sig .tc := ⟨.hbm, 149, rfl⟩
abbrev main_call0_call5_c_1 : Ref sig .tc := ⟨.hbm, 150, rfl⟩
abbrev main_call0_call5_v5 : Ref sig .tc := ⟨.hbm, 151, rfl⟩
abbrev main_call0_call5_v6 : Ref sig .tc := ⟨.hbm, 152, rfl⟩
abbrev main_call0_call5_c_2 : Ref sig .tc := ⟨.hbm, 153, rfl⟩
abbrev main_call0_call5_v7 : Ref sig .tc := ⟨.hbm, 154, rfl⟩
abbrev main_call0_call5_v8 : Ref sig .tc := ⟨.hbm, 155, rfl⟩
abbrev main_call0_call5_c_3 : Ref sig .tc := ⟨.hbm, 156, rfl⟩
abbrev main_call0_call5_v9 : Ref sig .tc := ⟨.hbm, 157, rfl⟩
abbrev main_call0_call5_v10 : Ref sig .tc := ⟨.hbm, 158, rfl⟩
abbrev main_call0_call5_v11 : Ref sig .tc := ⟨.hbm, 159, rfl⟩
abbrev main_call0_call5_v12 : Ref sig .tc := ⟨.hbm, 160, rfl⟩
abbrev main_call0_call5_v13 : Ref sig .tc := ⟨.hbm, 161, rfl⟩
abbrev main_call0_call5_v14 : Ref sig .tc := ⟨.hbm, 162, rfl⟩
abbrev main_call0_v49 : Ref sig .tc := ⟨.hbm, 163, rfl⟩
abbrev main_call0_c_14 : Ref sig .tc := ⟨.hbm, 164, rfl⟩
abbrev main_call0_v50 : Ref sig .tc := ⟨.hbm, 165, rfl⟩
abbrev main_call0_v51 : Ref sig .tc := ⟨.hbm, 166, rfl⟩
abbrev main_call0_c_15 : Ref sig .tc := ⟨.hbm, 167, rfl⟩
abbrev main_call0_call6_v0 : Ref sig .tc := ⟨.hbm, 168, rfl⟩
abbrev main_call0_call6_v1 : Ref sig .tc := ⟨.hbm, 169, rfl⟩
abbrev main_call0_call6_v2 : Ref sig .tc := ⟨.hbm, 170, rfl⟩
abbrev main_call0_call6_v3 : Ref sig .tc := ⟨.hbm, 171, rfl⟩
abbrev main_call0_call6_v4 : Ref sig .tc := ⟨.hbm, 172, rfl⟩
abbrev main_call0_call6_v5 : Ref sig .tc := ⟨.hbm, 173, rfl⟩
abbrev main_call0_call6_v6 : Ref sig .tc := ⟨.hbm, 174, rfl⟩
abbrev main_call0_call6_v7 : Ref sig .tc := ⟨.hbm, 175, rfl⟩
abbrev main_call0_call6_v8 : Ref sig .tc := ⟨.hbm, 176, rfl⟩
abbrev main_call0_call6_c : Ref sig .tc := ⟨.hbm, 177, rfl⟩
abbrev main_call0_call6_v9 : Ref sig .tc := ⟨.hbm, 178, rfl⟩
abbrev main_call0_call6_v10 : Ref sig .tc := ⟨.hbm, 179, rfl⟩
abbrev main_call0_call6_v11 : Ref sig .tc := ⟨.hbm, 180, rfl⟩
abbrev main_call0_call6_c_0 : Ref sig .tc := ⟨.hbm, 181, rfl⟩
abbrev main_call0_call6_v12 : Ref sig .tc := ⟨.hbm, 182, rfl⟩
abbrev main_call0_call6_v13 : Ref sig .tc := ⟨.hbm, 183, rfl⟩
abbrev main_call0_v52 : Ref sig .tc := ⟨.hbm, 184, rfl⟩
abbrev main_call0_v53 : Ref sig .tc := ⟨.hbm, 185, rfl⟩
abbrev main_call0_v54 : Ref sig .tc := ⟨.hbm, 186, rfl⟩
abbrev main_call0_v55 : Ref sig .tc := ⟨.hbm, 187, rfl⟩
abbrev main_call0_v56 : Ref sig .tc := ⟨.hbm, 188, rfl⟩
abbrev main_call0_v57 : Ref sig .tc := ⟨.hbm, 189, rfl⟩
abbrev main_call0_v58 : Ref sig .tc := ⟨.hbm, 190, rfl⟩
abbrev main_call0_v59 : Ref sig .tc := ⟨.hbm, 191, rfl⟩
abbrev main_call0_v60 : Ref sig .tc := ⟨.hbm, 192, rfl⟩
abbrev main_v0_0 : Ref sig .tc := ⟨.hbm, 193, rfl⟩
abbrev main_v0_1 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S128x512x512 : Shape := ⟨3, ![128, 512, 512]⟩
abbrev S512x4096 : Shape := ⟨2, ![512, 4096]⟩
abbrev S1024x4096 : Shape := ⟨2, ![1024, 4096]⟩
abbrev S4096 : Shape := ⟨1, ![4096]⟩
abbrev S_ : Shape := ⟨0, ![]⟩
abbrev S128x1024 : Shape := ⟨2, ![128, 1024]⟩
abbrev S128x512x4096 : Shape := ⟨3, ![128, 512, 4096]⟩
abbrev S1x1x4096 : Shape := ⟨3, ![1, 1, 4096]⟩
abbrev S512x128x4096 : Shape := ⟨3, ![512, 128, 4096]⟩
abbrev S1x128x4096 : Shape := ⟨3, ![1, 128, 4096]⟩
abbrev S128x4096 : Shape := ⟨2, ![128, 4096]⟩

abbrev nBuf : Space → Nat
  | .hbm => 63
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S512x4096, .f32⟩
  | .hbm, ⟨2, _⟩ => ⟨S1024x4096, .f32⟩
  | .hbm, ⟨3, _⟩ => ⟨S4096, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x512x4096, .f32⟩
  | .hbm, ⟨9, _⟩ => ⟨S1x1x4096, .f32⟩
  | .hbm, ⟨10, _⟩ => ⟨S128x512x4096, .f32⟩
  | .hbm, ⟨11, _⟩ => ⟨S128x512x4096, .f32⟩
  | .hbm, ⟨12, _⟩ => ⟨S512x128x4096, .f32⟩
  | .hbm, ⟨13, _⟩ => ⟨S_, .i32⟩
  | .hbm, ⟨14, _⟩ => ⟨S512x128x4096, .f32⟩
  | .hbm, ⟨15, _⟩ => ⟨S1024x4096, .f32⟩
  | .hbm, ⟨16, _⟩ => ⟨S_, .i32⟩
  | .hbm, ⟨17, _⟩ => ⟨S128x1024, .f32⟩
  | .hbm, ⟨18, _⟩ => ⟨S128x1024, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S1x128x4096, .f32⟩
  | .hbm, ⟨24, _⟩ => ⟨S128x4096, .f32⟩
  | .hbm, ⟨25, _⟩ => ⟨S128x4096, .f32⟩
  | .hbm, ⟨26, _⟩ => ⟨S128x4096, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S_, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S_, .i32⟩
  | .hbm, ⟨62, _⟩ => ⟨S_, .i32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_while0c_c_5 : Ref sig .tc := ⟨.hbm, 19, rfl⟩
abbrev main_while0c_v8 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_v0 : Ref sig .tc := ⟨.hbm, 23, rfl⟩
abbrev main_while0b_v8 : Ref sig .tc := ⟨.hbm, 24, rfl⟩
abbrev main_while0b_v9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_cst_5 : Ref sig .tc := ⟨.hbm, 33, rfl⟩
abbrev main_while0b_v17 : Ref sig .tc := ⟨.hbm, 34, rfl⟩
abbrev main_while0b_v18 : Ref sig .tc := ⟨.hbm, 35, rfl⟩
abbrev main_while0b_cst_6 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_cst_7 : Ref sig .tc := ⟨.hbm, 41, rfl⟩
abbrev main_while0b_v23 : Ref sig .tc := ⟨.hbm, 42, rfl⟩
abbrev main_while0b_v24 : Ref sig .tc := ⟨.hbm, 43, rfl⟩
abbrev main_while0b_cst_8 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_cst_9 : Ref sig .tc := ⟨.hbm, 50, rfl⟩
abbrev main_while0b_v30 : Ref sig .tc := ⟨.hbm, 51, rfl⟩
abbrev main_while0b_v31 : Ref sig .tc := ⟨.hbm, 52, rfl⟩
abbrev main_while0b_cst_10 : Ref sig .tc := ⟨.hbm, 53, rfl⟩
abbrev main_while0b_v32 : Ref sig .tc := ⟨.hbm, 54, rfl⟩
abbrev main_while0b_v33 : Ref sig .tc := ⟨.hbm, 55, rfl⟩
abbrev main_while0b_v34 : Ref sig .tc := ⟨.hbm, 56, rfl⟩
abbrev main_while0b_v35 : Ref sig .tc := ⟨.hbm, 57, rfl⟩
abbrev main_while0b_v36 : Ref sig .tc := ⟨.hbm, 58, rfl⟩
abbrev main_while0b_v37 : Ref sig .tc := ⟨.hbm, 59, rfl⟩
abbrev main_while0b_v38 : Ref sig .tc := ⟨.hbm, 60, rfl⟩
abbrev main_while0b_c_11 : Ref sig .tc := ⟨.hbm, 61, rfl⟩
abbrev main_while0b_v39 : Ref sig .tc := ⟨.hbm, 62, rfl⟩

abbrev nD : Nat := 1
abbrev τ : Topo := Topo.v7x

variable {F : FTy → Type} [FloatOps F]

abbrev main_while0_count : Scf.Loop 32 := ⟨0#32, 512#32, 1#32⟩
-- ==== Proof.Chunks.lean ====
/- One time step of the kernel's body, as functions of what it reads: the gates, the four column chunks of the new
   cell state, the four chunks of the new hidden state, and the list of stores the step makes into the cell-state
   buffer. Every time step of every grid point is this one step, applied to what the step before left. -/
module

public import proofs.«01_k».proof.Proof.Gen.KernelIdeal.Frame

@[expose] public section

set_option maxRecDepth 16384

noncomputable section

namespace Cert.KernelIdeal.Chunks

open Idealize.ShloMosaic Idealize.ShloMosaic.TcCoe Cert.KernelIdeal Cert.KernelIdeal.Gen

variable {F : FTy → Type} [FloatOps F]

/-- The columns `1024 n … 1024 n + 1023` fit in the gates' 4096. -/
theorem fits_block (n : Fin 4) : S128x4096.Slices ![0, 1024 * n.val] S128x1024 := by
  revert n; decide

/-- The columns `256 q … 256 q + 255` fit in a block's 1024. -/
theorem fits_chunk (q : Fin 4) : S128x1024.Slices ![0, 256 * q.val] S128x256 := by
  revert q; decide

/-- The same columns as a rectangle of a 128 by 1024 buffer. -/
theorem fits_rect (n : Fin 4) : ∀ a, (![0, 256 * n.val] : Fin 2 → ℕ) a + S128x256.size a ≤ S128x1024.size a := by
  revert n; decide

/-- Rows `128 t … 128 t + 127` of the buffer of input projections. -/
theorem fits_rows (t : Fin 8) : ∀ a, (![128 * t.val, 0] : Fin 2 → ℕ) a + S128x4096.size a ≤ S1024x4096.size a := by
  revert t; decide

/-- The rectangle of chunk `n`. -/
def chunk (n : Fin 4) : Rect S128x1024 := Rect.unit ![0, 256 * n.val] S128x256.size (fits_rect n)

/-- The rectangle of time step `t`'s rows. -/
def rows (t : Fin 8) : Rect S1024x4096 := Rect.unit ![128 * t.val, 0] S128x4096.size (fits_rows t)

/-- The constant one half, at a chunk's shape. -/
def half : FVec F S128x256 .f32 := broadcast S128x256 (Scalar.ofBits .f32 0x3F000000#32)

/-- Gate `q` of chunk `n`. -/
def sub (n q : Fin 4) (g : FVec F S128x4096 .f32) : FVec F S128x256 .f32 :=
  extractStridedSlice S128x256 ![0, 256 * q.val] (extractStridedSlice S128x1024 ![0, 1024 * n.val] g (fits_block n)) (fits_chunk q)

/-- A logistic gate from the hyperbolic tangent of half its argument. -/
def gate (t : FVec F S128x256 .f32) : FVec F S128x256 .f32 := addf (mulf half t) half

/-- Chunk `n` of the new cell state, of the gates and the old chunk. -/
def cell (n : Fin 4) (g : FVec F S128x4096 .f32) (v : FVec F S128x256 .f32) : FVec F S128x256 .f32 :=
  addf (mulf (gate (tanh (sub n 1 g))) v) (mulf (gate (tanh (sub n 0 g))) (tanh (sub n 2 g)))

/-- The new chunk as it is stored. -/
def stored (n : Fin 4) (g : FVec F S128x4096 .f32) (v : FVec F S128x256 .f32) : FVec F S128x256 .f32 :=
  shapeCast S128x256 (cell n g v) shapeCasts_S128x256_S128x256

/-- Chunk `n` of the new hidden state. -/
def hidden (n : Fin 4) (g : FVec F S128x4096 .f32) (v : FVec F S128x256 .f32) : FVec F S128x256 .f32 :=
  mulf (gate (tanh (sub n 3 g))) (tanh (cell n g v))

/-- The new hidden state, its four chunks side by side. -/
def joined (g : FVec F S128x4096 .f32) (v0 v1 v2 v3 : FVec F S128x256 .f32) : FVec F S128x1024 .bf16 :=
  concatenate S128x1024 1 [⟨S128x256, truncf .bf16 (hidden 0 g v0) bitsLt_bf16_f32⟩, ⟨S128x256, truncf .bf16 (hidden 1 g v1) bitsLt_bf16_f32⟩,
    ⟨S128x256, truncf .bf16 (hidden 2 g v2) bitsLt_bf16_f32⟩, ⟨S128x256, truncf .bf16 (hidden 3 g v3) bitsLt_bf16_f32⟩]
    concatenates_S128x256_S128x256_S128x256_S128x256_S128x1024_d1

/-- The gates of a step: its input projection plus the hidden state times the recurrent weights. -/
def gates (h : FVec F S128x1024 .bf16) (x : FVec F S128x4096 .f32) (w : FVec F S1024x4096 .bf16) : FVec F S128x4096 .f32 :=
  addf x (matmul dot_S128x1024_S1024x4096_S128x4096_1_0_0_1_n_n none h (shapeCast S1024x4096 w shapeCasts_S1024x4096_S1024x4096)
    (constant S128x4096 .f32 0x00000000#32))

/-- A list of stores into the cell-state buffer, last first. -/
abbrev Stores (F : FTy → Type) := List (View.Piece (Elt F) S128x1024 .f32)

/-- The stores of one step, of the old chunks it read, over the earlier stores. -/
def push (g : FVec F S128x4096 .f32) (v0 v1 v2 v3 : FVec F S128x256 .f32) (L : Stores F) : Stores F :=
  ⟨chunk 3, stored 3 g v3⟩ :: ⟨chunk 2, stored 2 g v2⟩ :: ⟨chunk 1, stored 1 g v1⟩ :: ⟨chunk 0, stored 0 g v0⟩ :: L

section Reads

variable {κ : Kind} {sp : Space} (v : View sig κ sp S128x1024 .f32) (g : FVec F S128x4096 .f32) (L : Stores F)

/-- The old chunk 0, read before the step's first store; -/
def old0 : FVec F S128x256 .f32 := v.readCov L (chunk 0).toLoadRect
/-- chunk 1, read after one store; -/
def old1 : FVec F S128x256 .f32 := v.readCov (⟨chunk 0, stored 0 g (old0 v L)⟩ :: L) (chunk 1).toLoadRect
/-- chunk 2, read after two; -/
def old2 : FVec F S128x256 .f32 :=
  v.readCov (⟨chunk 1, stored 1 g (old1 v g L)⟩ :: ⟨chunk 0, stored 0 g (old0 v L)⟩ :: L) (chunk 2).toLoadRect
/-- chunk 3, read after three. -/
def old3 : FVec F S128x256 .f32 :=
  v.readCov (⟨chunk 2, stored 2 g (old2 v g L)⟩ :: ⟨chunk 1, stored 1 g (old1 v g L)⟩ :: ⟨chunk 0, stored 0 g (old0 v L)⟩ :: L)
    (chunk 3).toLoadRect

/-- The stores after one more step; -/
def more : Stores F := push g (old0 v L) (old1 v g L) (old2 v g L) (old3 v g L) L
/-- and the hidden state after it. -/
def after : FVec F S128x1024 .bf16 := joined g (old0 v L) (old1 v g L) (old2 v g L) (old3 v g L)

end Reads

/-- What it is for eight gates `g` and the stores `L` after each of the first seven steps to be a run of the step: the
    first step reads the hidden state `h`, the old chunks `v0 … v3` and stores over `K`; every later one reads back what
    the steps before it stored. `x n` is step `n`'s input projection and `w` the recurrent weights. -/
structure Trace {κ : Kind} {sp : Space} (v : View sig κ sp S128x1024 .f32) (w : FVec F S1024x4096 .bf16) (x : ℕ → FVec F S128x4096 .f32)
    (h : FVec F S128x1024 .bf16) (v0 v1 v2 v3 : FVec F S128x256 .f32) (K : Stores F) (g : ℕ → FVec F S128x4096 .f32) (L : ℕ → Stores F) : Prop where
  gate_zero : g 0 = gates h (x 0) w
  list_zero : L 0 = push (g 0) v0 v1 v2 v3 K
  gate_one : g 1 = gates (joined (g 0) v0 v1 v2 v3) (x 1) w
  list_succ : ∀ n < 6, L (n + 1) = more v (g (n + 1)) (L n)
  gate_succ : ∀ n < 6, g (n + 2) = gates (after v (g (n + 1)) (L n)) (x (n + 2)) w

end Cert.KernelIdeal.Chunks

end
-- ==== Proof.Loads.lean ====
/- What the body reads at every grid point, whichever the point: the input projections of its eight steps, each read back from the
   projection buffer, and the recurrent weights. -/
module

public import proofs.«01_k».proof.Proof.Chunks

@[expose] public section

set_option maxRecDepth 16384

noncomputable section

namespace Cert.KernelIdeal.Chunks

open Idealize.ShloMosaic Idealize.ShloMosaic.TcCoe Cert.KernelIdeal Cert.KernelIdeal.Gen

variable {F : FTy → Type} [FloatOps F]
  (c : Dev nD) (i : grid0.Coords)
  (arg1 : Memref sig .tc .vmem S128x8x512 .f32) (harg1 : arg1.IsWhole) (arg2 : Memref sig .tc .vmem S1024x1024 .bf16) (harg2 : arg2.IsWhole)
  (arg3 : Memref sig .tc .vmem S512x4096 .bf16) (harg3 : arg3.IsWhole) (arg4 : Memref sig .tc .vmem S1024x4096 .bf16) (harg4 : arg4.IsWhole)
  (arg5 : Memref sig .tc .vmem S1x4096 .f32) (harg5 : arg5.IsWhole) (arg6 : Memref sig .tc .vmem S128x1024 .f32) (harg6 : arg6.IsWhole)
  (arg7 : Memref sig .tc .vmem S128x1024 .f32) (harg7 : arg7.IsWhole) (arg8 : Memref sig .tc .vmem S1024x4096 .f32) (harg8 : arg8.IsWhole)
  (arg9 : Memref sig .tc .vmem S128x1024 .bf16) (harg9 : arg9.IsWhole) (arg10 : Memref sig .tc .vmem S128x1024 .f32) (harg10 : arg10.IsWhole)
  (x0 : Vec F S128x8x512 .f32) (x1 : Vec F S1024x1024 .bf16) (x2 : Vec F S512x4096 .bf16) (x3 : Vec F S1024x4096 .bf16) (x4 : Vec F S1x4096 .f32)
  (xs1 : Vec F S128x1024 .bf16) (xs2 : Vec F S128x1024 .f32)

/-- The one store into the projection buffer. -/
def projected : List (View.Piece (Elt F) S1024x4096 .f32) :=
  [⟨Rect.unit ![0, 0] S1024x4096.size inb_S1024x4096_S1024x4096_0_0, k0_pay4
    (View.readAt (Elt F) arg1.view (Rect.unit ![0, 0, 0] S128x8x512.size inb_S128x8x512_S128x8x512_0_0_0).toLoadRect (harg1.unread x0))
    (View.readAt (Elt F) arg2.view (Rect.unit ![0, 0] S1024x1024.size inb_S1024x1024_S1024x1024_0_0).toLoadRect (harg2.unread x1))
    (View.readAt (Elt F) arg3.view (Rect.unit ![0, 0] S512x4096.size inb_S512x4096_S512x4096_0_0).toLoadRect (harg3.unread x2))
    (View.readAt (Elt F) arg5.view (Rect.unit ![0, 0] S1x4096.size inb_S1x4096_S1x4096_0_0).toLoadRect (harg5.unread x4))⟩]

/-- Step `n`'s input projection: its 128 rows of what was stored there. -/
def projection (n : ℕ) : FVec F S128x4096 .f32 :=
  arg8.view.readCov (projected arg1 harg1 arg2 harg2 arg3 harg3 arg5 harg5 x0 x1 x2 x4) (rows (Fin.ofNat 8 n)).toLoadRect

/-- The recurrent weights as the body loads them. -/
def recurrent : FVec F S1024x4096 .bf16 :=
  View.readAt (Elt F) arg4.view (Rect.unit ![0, 0] S1024x4096.size inb_S1024x4096_S1024x4096_0_0).toLoadRect (harg4.unread x3)

end Cert.KernelIdeal.Chunks

end
-- ==== Proof.Values.lean ====
/- One time step of the kernel's body over the extended reals, as one formula per entry of the cell state and one per entry of the
   hidden state: the four column chunks, the stores and the reads of Chunks.lean disappear. -/
module

public import proofs.«01_k».proof.Proof.Loads
public import Idealize.ShloMosaic.PureOps.Ideal.Laws
public import Idealize.ShloMosaic.Lib.ValueIdxCore
public import Idealize.ShloMosaic.Lib.Pipeline.Value

@[expose] public section

set_option maxRecDepth 16384

noncomputable section

namespace Cert.KernelIdeal.Chunks

open Idealize.ShloMosaic Idealize.ShloMosaic.TcCoe Cert.KernelIdeal Cert.KernelIdeal.Gen
open Idealize.ShloMosaic.ValueIdx Idealize.ShloMosaic.View

/-- A 128 by 1024 state and a 128 by 4096 array of gates, as functions of their indices. -/
abbrev StateMap := S128x1024.Idx → EReal
abbrev GateMap := S128x4096.Idx → EReal

/-- The gate array's column for gate `q` (0 input, 1 forget, 2 candidate, 3 output) of unit `u`: blocks of 256 units, in each
    block the four gates side by side. -/
def col (q : Fin 4) (u : Fin 1024) : Fin 4096 := ⟨1024 * (u.val / 256) + 256 * q.val + u.val % 256, by omega⟩

/-- A gate from the hyperbolic tangent: half of it plus a half. -/
def logi (t : EReal) : EReal := Ideal.ofBits .f32 0x3F000000#32 * t + Ideal.ofBits .f32 0x3F000000#32

/-- The new cell state of the gates and the old one; -/
def newCell (g : GateMap) (C : StateMap) : StateMap := fun j =>
  logi (Ideal.tanh (g (ix2 (j 0) (col 1 (j 1))))) * C j
    + logi (Ideal.tanh (g (ix2 (j 0) (col 0 (j 1))))) * Ideal.tanh (g (ix2 (j 0) (col 2 (j 1))))

/-- the new hidden state of the gates and the new cell state. -/
def newHidden (g : GateMap) (C : StateMap) : StateMap := fun j =>
  logi (Ideal.tanh (g (ix2 (j 0) (col 3 (j 1))))) * Ideal.tanh (C j)

/-- The part of a state that chunk `n` holds. -/
def part (n : Fin 4) (C : StateMap) : FVec Ideal S128x256 .f32 := fun x => C ((chunk n).emb x)

/-- Gate `q` of chunk `n` at an entry: the gate array at that unit's column. -/
theorem sub_apply (n q : Fin 4) (g : GateMap) (x : S128x256.Idx) :
    sub (F := Ideal) n q g x = g (ix2 ((chunk n).emb x 0) (col q ((chunk n).emb x 1))) := by
  refine congrArg g (funext fun a => Fin.ext ?_)
  have h1 : (x 1).val < 256 := (x 1).isLt
  match a with
  | ⟨0, _⟩ =>
    show 0 + (0 + (x 0).val) = 0 + 1 * (x 0).val
    omega
  | ⟨1, _⟩ =>
    show 1024 * n.val + (256 * q.val + (x 1).val) = 1024 * ((256 * n.val + 1 * (x 1).val) / 256) + 256 * q.val + (256 * n.val + 1 * (x 1).val) % 256
    omega

/-- A chunk of the new cell state is that part of it. -/
theorem cell_part (n : Fin 4) (g : GateMap) (C : StateMap) : cell (F := Ideal) n g (part n C) = part n (newCell g C) := by
  funext x
  show logi (Ideal.tanh (sub (F := Ideal) n 1 g x)) * C ((chunk n).emb x)
    + logi (Ideal.tanh (sub (F := Ideal) n 0 g x)) * Ideal.tanh (sub (F := Ideal) n 2 g x) = _
  rw [sub_apply, sub_apply, sub_apply]
  rfl

/-- So is the chunk as stored. -/
theorem stored_part (n : Fin 4) (g : GateMap) (C : StateMap) : stored (F := Ideal) n g (part n C) = part n (newCell g C) := by
  unfold stored
  rw [cell_part]
  exact shapeCast_self _ _

/-- A chunk of the new hidden state is that part of it. -/
theorem hidden_part (n : Fin 4) (g : GateMap) (C : StateMap) :
    hidden (F := Ideal) n g (part n C) = part n (newHidden g (newCell g C)) := by
  funext x
  show logi (Ideal.tanh (sub (F := Ideal) n 3 g x)) * Ideal.tanh (cell (F := Ideal) n g (part n C) x) = _
  rw [sub_apply, cell_part]
  rfl

/-- Every entry of a state lies in one of the four chunks. -/
theorem exists_chunk (y : S128x1024.Idx) : ∃ (n : Fin 4) (x : S128x256.Idx), (chunk n).emb x = y := by
  have h1 : (y 1).val < 1024 := (y 1).isLt
  refine ⟨⟨(y 1).val / 256, by omega⟩, ix2 (y 0) ⟨(y 1).val % 256, by omega⟩, funext fun a => Fin.ext ?_⟩
  match a with
  | ⟨0, _⟩ =>
    show 0 + 1 * (y 0).val = (y 0).val
    omega
  | ⟨1, _⟩ =>
    show 256 * ((y 1).val / 256) + 1 * ((y 1).val % 256) = (y 1).val
    omega

/-- Two states that agree in every part are one. -/
theorem ext_part {C D : StateMap} (h : ∀ n, part n C = part n D) : C = D := by
  funext y
  obtain ⟨n, x, rfl⟩ := exists_chunk y
  exact congrFun (h n) x

/-- An entry of one chunk is not in another. -/
theorem not_mem_chunk {n k : Fin 4} (h : n ≠ k) (x : S128x256.Idx) : (chunk n).emb x ∉ (chunk k).set := by
  intro hm
  obtain ⟨y, hy, e⟩ := (chunk k).mem_set.mp hm 1
  have h1 : (x 1).val < 256 := (x 1).isLt
  have hy' : y < 256 := hy
  have e' : 256 * n.val + 1 * (x 1).val = 256 * k.val + 1 * y := e
  exact h (Fin.ext (by omega))

/-- What a store to chunk `k` leaves: in that part what it stored, in every other what was there. -/
theorem part_canon_self (k : Fin 4) (w : FVec Ideal S128x256 .f32) (L : Stores Ideal) :
    part k (canon (⟨chunk k, w⟩ :: L)) = w := funext fun x => canon_cons_emb (Val := Elt Ideal) (e := .f32) (chunk k) w L x

theorem part_canon_of_ne {n k : Fin 4} (h : n ≠ k) (w : FVec Ideal S128x256 .f32) (L : Stores Ideal) :
    part n (canon (⟨chunk k, w⟩ :: L)) = part n (canon L) :=
  funext fun x => canon_cons_of_not_mem (Val := Elt Ideal) (e := .f32) ⟨chunk k, w⟩ L (not_mem_chunk h x)

/-- Four stores, one to each chunk, leave the state that has what they stored as its parts. -/
theorem canon_four (f : Fin 4 → FVec Ideal S128x256 .f32) (C : StateMap) (h : ∀ n, f n = part n C) (L : Stores Ideal) :
    canon (⟨chunk 3, f 3⟩ :: ⟨chunk 2, f 2⟩ :: ⟨chunk 1, f 1⟩ :: ⟨chunk 0, f 0⟩ :: L) = C := by
  refine ext_part fun n => ?_
  match n with
  | 0 => rw [part_canon_of_ne (by decide), part_canon_of_ne (by decide), part_canon_of_ne (by decide), part_canon_self, h]
  | 1 => rw [part_canon_of_ne (by decide), part_canon_of_ne (by decide), part_canon_self, h]
  | 2 => rw [part_canon_of_ne (by decide), part_canon_self, h]
  | 3 => rw [part_canon_self, h]

/-- The stores of one step over a cell state `C` leave the new cell state, whatever was stored before. -/
theorem canon_push (g : GateMap) (C : StateMap) (L : Stores Ideal) :
    canon (push (F := Ideal) g (part 0 C) (part 1 C) (part 2 C) (part 3 C) L) = newCell g C :=
  canon_four (fun n => stored (F := Ideal) n g (part n C)) _ (fun n => stored_part n g C) L

/-- The four chunks of the new hidden state side by side are it. -/
theorem joined_part (g : GateMap) (C : StateMap) :
    joined (F := Ideal) g (part 0 C) (part 1 C) (part 2 C) (part 3 C) = newHidden g (newCell g C) := by
  refine ext_part fun n => funext fun x => ?_
  have h1 : (x 1).val < 256 := (x 1).isLt
  rw [← hidden_part]
  refine concatenate_ofFn_apply (t := S128x1024) (s₁ := S128x256) 1 (N := 4) (fun n => hidden (F := Ideal) n g (part n C))
    concatenates_S128x256_S128x256_S128x256_S128x256_S128x1024_d1 rfl 256 rfl ((chunk n).emb x) n ?_ x ?_ ?_
  · show (256 * n.val + 1 * (x 1).val) / 256 = n.val
    omega
  · show (x 1).val = (256 * n.val + 1 * (x 1).val) % 256
    omega
  · intro b hb
    match b with
    | ⟨0, _⟩ =>
      show (x 0).val = 0 + 1 * (x 0).val
      omega
    | ⟨1, _⟩ => exact absurd rfl hb

section Reads

variable {κ : Kind} {sp : Space} (v : View sig κ sp S128x1024 .f32) (g : GateMap) (L : Stores Ideal)

/-- A load of chunk `n` reads that part of what the stores left. -/
theorem read_chunk (n : Fin 4) : v.readCov L (chunk n).toLoadRect = part n (canon L) := readCov_eq_canon' v L (chunk n).toLoadRect

/-- Each old chunk a step reads is that part of what the stores before the step left. -/
theorem old0_part : old0 (F := Ideal) v L = part 0 (canon L) := read_chunk v L 0

theorem old1_part : old1 (F := Ideal) v g L = part 1 (canon L) := by
  unfold old1
  rw [read_chunk, part_canon_of_ne (by decide)]

theorem old2_part : old2 (F := Ideal) v g L = part 2 (canon L) := by
  unfold old2
  rw [read_chunk, part_canon_of_ne (by decide), part_canon_of_ne (by decide)]

theorem old3_part : old3 (F := Ideal) v g L = part 3 (canon L) := by
  unfold old3
  rw [read_chunk, part_canon_of_ne (by decide), part_canon_of_ne (by decide), part_canon_of_ne (by decide)]

/-- One more step leaves the new cell state of what was there, -/
theorem canon_more : canon (more (F := Ideal) v g L) = newCell g (canon L) := by
  unfold more
  rw [old0_part, old1_part, old2_part, old3_part, canon_push]

/-- and the new hidden state. -/
theorem after_eq : after (F := Ideal) v g L = newHidden g (newCell g (canon L)) := by
  unfold after
  rw [old0_part, old1_part, old2_part, old3_part, joined_part]

end Reads

/-- The two states, hidden and cell, after `n` steps from `H` and `C`, of the steps' input projections `x` and the weights `w`. -/
def steps (w : FVec Ideal S1024x4096 .bf16) (x : ℕ → GateMap) (H C : StateMap) : ℕ → StateMap × StateMap
  | 0 => (H, C)
  | n + 1 =>
    let s := steps w x H C n
    let g : GateMap := gates (F := Ideal) s.1 (x n) w
    (newHidden g (newCell g s.2), newCell g s.2)

/-- A run of the step from the states `H` and `C`: what its gates and its stores come to after each step. -/
theorem Trace.each {κ : Kind} {sp : Space} {v : View sig κ sp S128x1024 .f32} {w : FVec Ideal S1024x4096 .bf16} {x : ℕ → GateMap}
    {H C : StateMap} {K : Stores Ideal} {g : ℕ → GateMap} {L : ℕ → Stores Ideal}
    (t : Trace (F := Ideal) v w x H (part 0 C) (part 1 C) (part 2 C) (part 3 C) K g L) :
    ∀ n < 7, canon (L n) = (steps w x H C (n + 1)).2
      ∧ g (n + 1) = gates (F := Ideal) (steps w x H C (n + 1)).1 (x (n + 1)) w
  | 0, _ => by
    have e : canon (L 0) = (steps w x H C 1).2 := by rw [t.list_zero, t.gate_zero, canon_push]; rfl
    refine ⟨e, ?_⟩
    rw [t.gate_one, joined_part, t.gate_zero]
    rfl
  | n + 1, h => by
    obtain ⟨hL, hg⟩ := t.each n (by omega)
    rw [t.list_succ n (by omega), t.gate_succ n (by omega), canon_more, after_eq, hL, hg]
    exact ⟨rfl, rfl⟩

/-- So the eighth step, over them, leaves the states after eight steps, however its chunks are laid down. -/
theorem Trace.last {κ : Kind} {sp : Space} {v : View sig κ sp S128x1024 .f32} {w : FVec Ideal S1024x4096 .bf16} {x : ℕ → GateMap}
    {H C : StateMap} {K : Stores Ideal} {g : ℕ → GateMap} {L : ℕ → Stores Ideal}
    (t : Trace (F := Ideal) v w x H (part 0 C) (part 1 C) (part 2 C) (part 3 C) K g L) :
    canon ([⟨chunk 3, hidden (F := Ideal) 3 (g 7) (old3 v (g 7) (L 6))⟩, ⟨chunk 2, hidden (F := Ideal) 2 (g 7) (old2 v (g 7) (L 6))⟩,
        ⟨chunk 1, hidden (F := Ideal) 1 (g 7) (old1 v (g 7) (L 6))⟩, ⟨chunk 0, hidden (F := Ideal) 0 (g 7) (old0 v (L 6))⟩] : Stores Ideal)
        = (steps w x H C 8).1
      ∧ canon ([⟨chunk 3, cell (F := Ideal) 3 (g 7) (old3 v (g 7) (L 6))⟩, ⟨chunk 2, cell (F := Ideal) 2 (g 7) (old2 v (g 7) (L 6))⟩,
        ⟨chunk 1, cell (F := Ideal) 1 (g 7) (old1 v (g 7) (L 6))⟩, ⟨chunk 0, cell (F := Ideal) 0 (g 7) (old0 v (L 6))⟩] : Stores Ideal)
        = (steps w x H C 8).2
      ∧ after (F := Ideal) v (g 7) (L 6) = (steps w x H C 8).1
      ∧ canon (more (F := Ideal) v (g 7) (L 6)) = (steps w x H C 8).2 := by
  obtain ⟨hL, hg⟩ := t.each 6 (by omega)
  rw [old0_part, old1_part, old2_part, old3_part, after_eq, canon_more, hL, hg]
  exact ⟨canon_four (fun n => hidden (F := Ideal) n _ (part n _)) _ (fun n => hidden_part n _ _) _,
    canon_four (fun n => cell (F := Ideal) n _ (part n _)) _ (fun n => cell_part n _ _) _, rfl, rfl⟩

end Cert.KernelIdeal.Chunks

end
-- ==== Proof.Words.lean ====
module

public import proofs.«01_k».proof.Proof.Values
@[expose] public section

/-!
# The whole numbers the host computes

Before the grid starts, the host program computes for each column of the stacked weights the column of the
caller's weights it is taken from and the scale it is given, and for each row of the row permutation the row
it picks. Every one of these is a short integer computation on 32-bit words; here each is written once, on one
word, and read as the number it is.
-/

set_option maxRecDepth 65536

noncomputable section

namespace Cert.KernelIdeal.Words

open Idealize.ShloMosaic Idealize.ShloMosaic.TcCoe Cert.KernelIdeal

/-- The sign of a word, as the word -1, 0 or 1. -/
def sign (x : BitVec 32) : BitVec 32 := if x = 0 then 0 else if x.msb then -1 else 1

/-- The quotient rounded down, as the host computes it from the quotient rounded towards zero. -/
def quotient (x d : BitVec 32) : BitVec 32 :=
  Scalar.select
    (IntOp.andi (IntOp.cmpi .ne (sign x) (sign d)) (IntOp.cmpi .ne (IntOp.remsi .host x d) 0#32))
    (IntOp.subi (IntOp.divsi .host x d) 1#32) (IntOp.divsi .host x d)

/-- The divisor a remainder is taken by: one in the place of zero. -/
def divisor (d : BitVec 32) : BitVec 32 := Scalar.select (IntOp.cmpi .eq d 0#32) 1#32 d

/-- The remainder with the divisor's sign, as the host computes it from the one with the dividend's sign. -/
def remainder (x d : BitVec 32) : BitVec 32 :=
  Scalar.select
    (IntOp.andi
      (IntOp.cmpi .ne (IntOp.cmpi .slt (IntOp.remsi .host x (divisor d)) 0#32)
        (IntOp.cmpi .slt (divisor d) 0#32))
      (IntOp.cmpi .ne (IntOp.remsi .host x (divisor d)) 0#32))
    (IntOp.addi (IntOp.remsi .host x (divisor d)) (divisor d)) (IntOp.remsi .host x (divisor d))

/-- Which of the four gates a column of the stacked weights belongs to. -/
def gateWord (k : BitVec 32) : BitVec 32 := quotient (remainder k 1024#32) 256#32

/-- The column of the caller's weights that a column of the stacked weights is taken from. -/
def sourceWord (k : BitVec 32) : BitVec 32 :=
  IntOp.addi
    (IntOp.addi (IntOp.muli (gateWord k) 1024#32) (IntOp.muli (quotient k 1024#32) 256#32))
    (remainder k 256#32)

/-- The same column as it is handed to the gather, which counts a negative one from the end. -/
def columnWord (k : BitVec 32) : BitVec 32 :=
  Scalar.select (IntOp.cmpi .slt (sourceWord k) 0#32) (IntOp.addi (sourceWord k) 4096#32) (sourceWord k)

/-- Whether a column belongs to the third gate, the one that is left unscaled. -/
def thirdWord (k : BitVec 32) : BitVec 1 := IntOp.cmpi .eq (gateWord k) 2#32

/-- The row of the block that a row of the row permutation picks. -/
def pickedWord (r : BitVec 32) : BitVec 32 :=
  IntOp.addi (IntOp.muli (remainder r 128#32) 8#32) (quotient r 128#32)

/-- Column `1024 (u / 256) + 256 q + u % 256` of the stacked weights is taken from column `1024 q + u`. -/
theorem columnWord_col :
    ∀ (q : Fin 4) (u : Fin 1024),
      (columnWord (BitVec.ofNat 32 (Chunks.col q u).val)).toInt.toNat = 1024 * q.val + u.val := by
  decide +kernel

/-- That column belongs to gate `q`: it is left unscaled exactly when `q` is the third. -/
theorem thirdWord_col :
    ∀ (q : Fin 4) (u : Fin 1024),
      thirdWord (BitVec.ofNat 32 (Chunks.col q u).val) = BitVec.ofBool (decide (q = 2)) := by
  decide +kernel

/-- Row `128 t + b` of the row permutation picks row `8 b + t`. -/
theorem pickedWord_row :
    ∀ (t : Fin 8) (b : Fin 128),
      pickedWord (BitVec.ofNat 32 (128 * t.val + b.val)) = BitVec.ofNat 32 (8 * b.val + t.val) := by
  decide +kernel

end Cert.KernelIdeal.Words
end
-- ==== Proof.Prefix.lean ====
module

public import proofs.«01_k».proof.Proof.Words
@[expose] public section

/-!
# What the host hands to the kernel

The arrays that the grid's windows read: the row permutation and the stacked, scaled weights and bias, each as one
expression over the caller's arguments.
-/

set_option maxRecDepth 65536

noncomputable section

namespace Cert.KernelIdeal.Prefix

open Idealize.ShloMosaic Idealize.ShloMosaic.TcCoe Cert.KernelIdeal Cert.KernelIdeal.Gen Idealize.ShloMosaic.StableHlo

variable {F : FTy → Type} [FloatOps F]

/-- The list whose entry `k` is a function of the word `k`. -/
def listed {n : ℕ} {α : Type} (f : BitVec 32 → α) : (⟨1, ![n]⟩ : Shape).Idx → α := fun i => f (BitVec.ofNat 32 (i 0).val)

/-- The columns the stacked weights are taken from, as the gathers read them. -/
def columns : IVec S4096x1 32 := broadcastInDim S4096x1 ![0] bcast_S4096_S4096x1_0 (listed Words.columnWord)

/-- The scale of each column of the stacked weights: one for the third gate, a half for the others. -/
def scales : FVec F S4096 .f32 :=
  listed fun k =>
    Scalar.select (Words.thirdWord k) (FloatOps.ofBits .f32 0x3F800000#32) (FloatOps.ofBits .f32 0x3F000000#32)

/-- The input weights with their columns reordered and scaled; -/
def inputWeights (w : FVec F S512x4096 .f32) : FVec F S512x4096 .bf16 :=
  truncf .bf16
    (mulf (Host.gather gather_S512x4096_S4096x1_S512x4096_0_1_n_n_1_1_5121 w columns)
      (broadcastInDim S512x4096 ![0, 1] bcast_S1x4096_S512x4096_0_1
        (broadcastInDim S1x4096 ![1] bcast_S4096_S1x4096_1 scales)))
    bitsLt_bf16_f32

/-- the recurrent weights likewise; -/
def recurrentWeights (w : FVec F S1024x4096 .f32) : FVec F S1024x4096 .bf16 :=
  truncf .bf16
    (mulf (Host.gather gather_S1024x4096_S4096x1_S1024x4096_0_1_n_n_1_1_10241 w columns)
      (broadcastInDim S1024x4096 ![0, 1] bcast_S1x4096_S1024x4096_0_1
        (broadcastInDim S1x4096 ![1] bcast_S4096_S1x4096_1 scales)))
    bitsLt_bf16_f32

/-- and the bias, as one row. -/
def biasRow (b : FVec F S4096 .f32) : FVec F S1x4096 .f32 :=
  shapeCast S1x4096 (mulf (Host.gather gather_S4096_S4096x1_S4096_n_0_n_n_0_1_1 b columns) scales)
    shapeCasts_S4096_S1x4096

/-- The row permutation: entry `(r, k)` is one where `k` is the row that `r` picks and zero elsewhere. -/
def permutation : FVec F S1024x1024 .bf16 := fun i =>
  FloatOps.uitofp .bf16
    (IntOp.cmpi .eq (Words.pickedWord (BitVec.ofNat 32 (i 0).val)) (BitVec.ofNat 32 (i 1).val))

variable (m : (ℓ : Loc nD τ sig) → Buf (Elt F) ℓ) (c : Dev nD)

/-- The grid's input weights are the reordered and scaled ones; -/
theorem input_weights :
    V m c main_call0_v25 = inputWeights (m ((c : Thread nD τ).loc main_arg1)) := by
  unfold V
  after_results_simp
  simp only [TRef.ofBuf_toBuf]
  rfl

/-- its recurrent weights likewise; -/
theorem recurrent_weights :
    V m c main_call0_v37 = recurrentWeights (m ((c : Thread nD τ).loc main_arg2)) := by
  unfold V
  after_results_simp
  simp only [TRef.ofBuf_toBuf]
  rfl

/-- its bias row is the reordered and scaled bias; -/
theorem bias_row :
    V m c main_call0_v47 = biasRow (m ((c : Thread nD τ).loc main_arg3)) := by
  unfold V
  after_results_simp
  simp only [TRef.ofBuf_toBuf]
  rfl

/-- and its permutation is the row permutation. -/
theorem row_permutation :
    V m c main_call0_v60 = permutation := by
  unfold V
  after_results_simp
  simp only [TRef.ofBuf_toBuf]
  rfl

end Cert.KernelIdeal.Prefix
end
-- ==== Proof.Sigmoid.lean ====
module

public import proofs.«01_k».proof.Proof.Values
@[expose] public section

/-!
# Gates from the hyperbolic tangent

On the extended reals, half of the hyperbolic tangent of half of `z`, plus a half, is `1 / (1 + exp (-z))`; and a sum of
products may be scaled factor by factor.
-/

set_option maxRecDepth 16384

noncomputable section

namespace Cert.KernelIdeal.Chunks

open Idealize.ShloMosaic

/-- The word `0x3F000000` is a half. -/
theorem half_word : Ideal.ofBits .f32 0x3F000000#32 = ((1 / 2 : ℝ) : EReal) := by
  simp [Ideal.ofBits, Ideal.ieee, -EReal.coe_mul]; norm_num

/-- Half of the hyperbolic tangent of half of `z`, plus a half, is the logistic function of `z`. -/
theorem logi_tanh_half (z : EReal) : logi (Ideal.tanh (z * ((1 / 2 : ℝ) : EReal))) = Ideal.logistic z := by
  unfold logi
  rw [half_word]
  induction z using EReal.rec with
  | bot =>
    rw [EReal.bot_mul_coe_of_pos (by norm_num), Ideal.tanh_bot, Ideal.logistic_bot, mul_neg, mul_one, ← EReal.coe_neg,
      ← EReal.coe_add]
    norm_num
  | top =>
    rw [EReal.top_mul_coe_of_pos (by norm_num), Ideal.tanh_top, Ideal.logistic_top, mul_one, ← EReal.coe_add]
    norm_num
  | coe x =>
    rw [← EReal.coe_mul, Ideal.tanh_coe, Ideal.logistic_coe, ← EReal.coe_mul, ← EReal.coe_add]
    refine congrArg _ ?_
    have hx : Real.exp (-x) = Real.exp (-(x * (1 / 2))) * Real.exp (-(x * (1 / 2))) := by
      rw [← Real.exp_add]; congr 1; ring
    have hi : Real.exp (-(x * (1 / 2))) = (Real.exp (x * (1 / 2)))⁻¹ := Real.exp_neg _
    have he : (0 : ℝ) < Real.exp (x * (1 / 2)) := Real.exp_pos _
    rw [Real.tanh_eq_sinh_div_cosh, Real.sinh_eq, Real.cosh_eq, hx, hi]
    field_simp
    ring

/-- A nonnegative real factor comes out of a sum of two. -/
theorem add_scaled (a b : EReal) (s : ℝ) (hs : 0 ≤ s) : (a + b) * (s : EReal) = a * s + b * s :=
  EReal.right_distrib_of_nonneg_of_ne_top (by exact_mod_cast hs) (EReal.coe_ne_top _) a b

/-- A nonnegative real factor comes out of a sum of products. -/
theorem sum_scaled {ι : Type} [Fintype ι] (a w : ι → EReal) (s : ℝ) (hs : 0 ≤ s) :
    ∑ k, a k * (w k * (s : EReal)) = (∑ k, a k * w k) * s := by
  classical
  have h : ∀ S : Finset ι, ∑ k ∈ S, a k * (w k * (s : EReal)) = (∑ k ∈ S, a k * w k) * s := by
    intro S
    induction S using Finset.induction_on with
    | empty => simp
    | insert i S hi ih =>
      rw [Finset.sum_insert hi, Finset.sum_insert hi, add_scaled _ _ _ hs, ih, mul_assoc]
  exact h _

/-- A sum weighted by one at a single place and by zero elsewhere is the entry at that place. -/
theorem sum_picked {ι : Type} [Fintype ι] [DecidableEq ι] (a w : ι → EReal) (i : ι) (h1 : w i = 1)
    (h0 : ∀ k, k ≠ i → w k = 0) : ∑ k, w k * a k = a i := by
  rw [Finset.sum_eq_single i (fun k _ hk => by rw [h0 k hk, zero_mul]) (fun h => absurd (Finset.mem_univ i) h), h1, one_mul]

end Cert.KernelIdeal.Chunks
end
-- ==== Proof.Lstm.lean ====
module

public import proofs.«01_k».proof.Proof.Sigmoid
public import Idealize.ShloMosaic.Lib.MatmulPlain
@[expose] public section

/-!
# The recurrence, plainly

The long short-term memory recurrence on the extended reals, its four gates side by side in the caller's order; and that
the kernel's steps, on inputs whose columns are reordered and halved, are its steps.
-/

set_option maxRecDepth 16384

noncomputable section

namespace Cert.KernelIdeal.Chunks

open Idealize.ShloMosaic Idealize.ShloMosaic.TcCoe Idealize.ShloMosaic.ValueIdx Cert.KernelIdeal

/-- The caller's column for gate `q` (0 input, 1 forget, 2 candidate, 3 output) of unit `u`: the four gates side by side. -/
def place (q : Fin 4) (u : Fin 1024) : Fin 4096 := ⟨1024 * q.val + u.val, by omega⟩

/-- What the input contributes to the gates at step `n`: the step's input times the input weights, plus the bias. -/
def drive (x : S128x512x512.Idx → EReal) (w : S512x4096.Idx → EReal) (b : S4096.Idx → EReal) (n : ℕ) : GateMap := fun j =>
  (∑ d : Fin 512, x (ix3 (j 0) (Fin.ofNat 512 n) d) * w (ix2 d (j 1))) + b (ix1 (j 1))

/-- The gates before their nonlinearities: the input's part plus the hidden state times the recurrent weights. -/
def raw (X : GateMap) (w : S1024x4096.Idx → EReal) (H : StateMap) : GateMap := fun j =>
  X j + ∑ k : Fin 1024, H (ix2 (j 0) k) * w (ix2 k (j 1))

/-- The next cell state of the gates and the cell state; -/
def nextCell (g : GateMap) (C : StateMap) : StateMap := fun j =>
  Ideal.logistic (g (ix2 (j 0) (place 1 (j 1)))) * C j
    + Ideal.logistic (g (ix2 (j 0) (place 0 (j 1)))) * Ideal.tanh (g (ix2 (j 0) (place 2 (j 1))))

/-- the next hidden state of the gates and the next cell state. -/
def nextHidden (g : GateMap) (C : StateMap) : StateMap := fun j =>
  Ideal.logistic (g (ix2 (j 0) (place 3 (j 1)))) * Ideal.tanh (C j)

/-- The hidden and the cell state one step on. -/
def advance (X : GateMap) (w : S1024x4096.Idx → EReal) (s : StateMap × StateMap) : StateMap × StateMap :=
  (nextHidden (raw X w s.1) (nextCell (raw X w s.1) s.2), nextCell (raw X w s.1) s.2)

/-- The hidden and the cell state after `n` steps from zeros. -/
def states (X : ℕ → GateMap) (w : S1024x4096.Idx → EReal) : ℕ → StateMap × StateMap
  | 0 => (fun _ => 0, fun _ => 0)
  | n + 1 => advance (X n) w (states X w n)

/-- The factor the kernel's host puts on gate `q`: one on the candidate, a half on the three others. -/
def factor (q : Fin 4) : ℝ := if q = 2 then 1 else 1 / 2

theorem factor_nonneg (q : Fin 4) : 0 ≤ factor q := by
  unfold factor
  split <;> norm_num

/-- `y` holds the columns of `x` reordered and scaled as the kernel's host does. -/
def Stacked {R : ℕ} (y x : (⟨2, ![R, 4096]⟩ : Shape).Idx → EReal) : Prop :=
  ∀ (r : Fin R) (q : Fin 4) (u : Fin 1024), y (ix2 r (col q u)) = x (ix2 r (place q u)) * (factor q : EReal)

/-- The kernel's gate array, entry by entry. -/
theorem gates_apply (H : StateMap) (x : GateMap) (w : S1024x4096.Idx → EReal) (b : Fin 128) (k : Fin 4096) :
    gates (F := Ideal) H x w (ix2 b k) = x (ix2 b k) + ∑ i : Fin 1024, H (ix2 b i) * w (ix2 i k) := by
  unfold gates
  rw [shapeCast_self]
  refine congrArg (x (ix2 b k) + ·) ?_
  refine (Ideal.matmul_plain_apply (M := 128) (K := 1024) (N := 4096) (φ₁ := .bf16) (φ₂ := .bf16) none H w _ b k).trans ?_
  refine (congrArg (· + _) Ideal.ofBits_zero_f32).trans (zero_add _)

/-- On reordered and scaled inputs the kernel's gate array is the plain one, reordered and scaled. -/
theorem gates_stacked (H : StateMap) {x X : GateMap} {y w : S1024x4096.Idx → EReal} (hx : Stacked x X) (hw : Stacked y w) :
    Stacked (gates (F := Ideal) H x y) (raw X w H) := by
  intro b q u
  rw [gates_apply, hx b q u]
  refine (congrArg (_ + ·) (Finset.sum_congr rfl fun i _ => congrArg (H (ix2 b i) * ·) (hw i q u))).trans ?_
  rw [sum_scaled _ _ _ (factor_nonneg q)]
  exact (add_scaled _ _ _ (factor_nonneg q)).symm

/-- A halved gate through the kernel's nonlinearity is the logistic function of the gate; -/
theorem gate_stacked {y x : GateMap} (h : Stacked y x) (b : Fin 128) (q : Fin 4) (hq : q ≠ 2) (u : Fin 1024) :
    logi (Ideal.tanh (y (ix2 b (col q u)))) = Ideal.logistic (x (ix2 b (place q u))) := by
  rw [h b q u]
  unfold factor
  rw [if_neg hq]
  exact logi_tanh_half _

/-- the candidate is not scaled. -/
theorem candidate_stacked {y x : GateMap} (h : Stacked y x) (b : Fin 128) (u : Fin 1024) :
    y (ix2 b (col 2 u)) = x (ix2 b (place 2 u)) := by
  rw [h b 2 u]
  unfold factor
  rw [if_pos rfl, EReal.coe_one, mul_one]

/-- So the kernel's new cell state is the next one; -/
theorem newCell_stacked {y x : GateMap} (h : Stacked y x) (C : StateMap) : newCell y C = nextCell x C := by
  funext j
  exact congrArg₂ (· + ·) (congrArg (· * C j) (gate_stacked h (j 0) 1 (by decide) (j 1)))
    (congrArg₂ (· * ·) (gate_stacked h (j 0) 0 (by decide) (j 1)) (congrArg Ideal.tanh (candidate_stacked h (j 0) (j 1))))

/-- and so is its new hidden state. -/
theorem newHidden_stacked {y x : GateMap} (h : Stacked y x) (C : StateMap) : newHidden y C = nextHidden x C := by
  funext j
  exact congrArg (· * Ideal.tanh (C j)) (gate_stacked h (j 0) 3 (by decide) (j 1))

/-- The kernel's steps from the states after `a` steps are the recurrence's next ones, as long as the inputs are the
    reordered and scaled ones. -/
theorem steps_stacked {X x : ℕ → GateMap} {y w : S1024x4096.Idx → EReal} (hw : Stacked y w) (a : ℕ) :
    ∀ n, (∀ k, k < n → Stacked (x k) (X (a + k))) →
      steps y x (states X w a).1 (states X w a).2 n = states X w (a + n)
  | 0, _ => rfl
  | n + 1, hx => by
    have ih := steps_stacked hw a n fun k hk => hx k (by omega)
    have hg := gates_stacked (states X w (a + n)).1 (hx n (by omega)) hw
    unfold steps
    rw [ih]
    show (newHidden (gates (F := Ideal) (states X w (a + n)).1 (x n) y)
        (newCell (gates (F := Ideal) (states X w (a + n)).1 (x n) y) (states X w (a + n)).2),
      newCell (gates (F := Ideal) (states X w (a + n)).1 (x n) y) (states X w (a + n)).2) = _
    rw [newCell_stacked hg, newHidden_stacked hg]
    rfl

end Cert.KernelIdeal.Chunks
end
-- ==== Proof.Stacking.lean ====
module

public import proofs.«01_k».proof.Proof.Prefix
public import proofs.«01_k».proof.Proof.Lstm
public import Idealize.ShloMosaic.Lib.IdealHost
public import Idealize.ShloMosaic.Lib.ValueLayout
public import Idealize.ShloMosaic.Lib.StableHlo.Predicate
@[expose] public section

/-!
# The stacked weights, read

At the ideal values the host's reordered and scaled weights hold the caller's columns, each in its new place and with its
gate's factor.
-/

set_option maxRecDepth 16384

noncomputable section

namespace Cert.KernelIdeal.Chunks

open Idealize.ShloMosaic Idealize.ShloMosaic.TcCoe Idealize.ShloMosaic.ValueIdx Cert.KernelIdeal Cert.KernelIdeal.Prefix

/-- A gather of whole columns of an `R`-row matrix: the column numbers are a one-column array. -/
abbrev columnDims (R N n : ℕ) (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- Such a gather's entry `(r, k)` is the matrix's entry in row `r` of the column that `k`'s number names. -/
theorem gather_columns {α : Type} {R N n w : ℕ}
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ w) (r : Fin R) (k : Fin n) (j : Fin N)
    (h : (idx (ix2 k (0 : Fin 1))).toInt.toNat = j.val) :
    Host.gather (columnDims R N n wf) x idx (ix2 r k) = x (ix2 r j) := by
  unfold Host.gather
  refine congrArg x (funext fun a => Fin.ext ?_)
  have batch : ∀ a, (columnDims R N n wf).batchCoord (ix2 r k) a = 0 := fun a =>
    GatherDims.batchCoord_eq_zero _ _ _ List.not_mem_nil
  match a with
  | ⟨0, _⟩ =>
    show (columnDims R N n wf).start (ix2 r k) idx 0 + (columnDims R N n wf).batchCoord (ix2 r k) 0
      + (columnDims R N n wf).offCoord (ix2 r k) 0 = r.val
    have e : (columnDims R N n wf).start (ix2 r k) idx 0 = 0 := by
      unfold GatherDims.start
      exact dif_neg (show (0 : Fin 2) ∉ ([1] : List (Fin 2)) from by decide)
    rw [batch, e]
    show 0 + 0 + r.val = r.val
    omega
  | ⟨1, _⟩ =>
    show (columnDims R N n wf).start (ix2 r k) idx 1 + (columnDims R N n wf).batchCoord (ix2 r k) 1
      + (columnDims R N n wf).offCoord (ix2 r k) 1 = j.val
    rw [batch, GatherDims.offCoord_eq_zero _ _ _ fun hk =>
      ((GatherDims.mem_sKept _ _).mp hk).1 (List.mem_singleton.mpr rfl)]
    have hm : (1 : Fin 2) ∈ (columnDims R N n wf).startIndexMap := List.mem_singleton.mpr rfl
    have hs : (columnDims R N n wf).siIdx (ix2 r k)
        ⟨(columnDims R N n wf).startIndexMap.idxOf 1, List.idxOf_lt_length_iff.2 hm⟩ = ix2 k (0 : Fin 1) := by
      funext b
      refine Fin.ext ?_
      match b with
      | ⟨0, _⟩ => rfl
      | ⟨1, _⟩ => rfl
    unfold GatherDims.start
    rw [dif_pos hm, hs, h]
    have hj := j.isLt
    show min j.val (N - 1) + 0 + 0 = j.val
    omega

/-- The factor of a column, as the extended real the host multiplies by. -/
theorem scales_col (q : Fin 4) (u : Fin 1024) : (scales (F := Ideal)) (ix1 (col q u)) = (factor q : EReal) := by
  show Scalar.select (Words.thirdWord (BitVec.ofNat 32 (col q u).val)) (Ideal.ofBits .f32 0x3F800000#32)
    (Ideal.ofBits .f32 0x3F000000#32) = _
  rw [Words.thirdWord_col, Ideal.ofBits_one_f32, half_word]
  unfold factor
  by_cases hq : q = 2
  · rw [if_pos hq, decide_eq_true hq, EReal.coe_one]; rfl
  · rw [if_neg hq, decide_eq_false hq]; rfl

/-- Where a column of the stacked weights comes from. -/
theorem columns_col (q : Fin 4) (u : Fin 1024) :
    (columns (ix2 (col q u) (0 : Fin 1))).toInt.toNat = (place q u).val :=
  Words.columnWord_col q u

/-- The input weights are stacked; -/
theorem input_stacked (w : S512x4096.Idx → EReal) : Stacked (R := 512) (inputWeights (F := Ideal) w) w := by
  intro r q u
  show Host.gather gather_S512x4096_S4096x1_S512x4096_0_1_n_n_1_1_5121 w columns (ix2 r (col q u))
    * scales (F := Ideal) (ix1 (col q u)) = _
  rw [scales_col]
  exact congrArg (· * _) (gather_columns _ w columns r (col q u) (place q u) (columns_col q u))

/-- the recurrent weights are stacked; -/
theorem recurrent_stacked (w : S1024x4096.Idx → EReal) : Stacked (R := 1024) (recurrentWeights (F := Ideal) w) w := by
  intro r q u
  show Host.gather gather_S1024x4096_S4096x1_S1024x4096_0_1_n_n_1_1_10241 w columns (ix2 r (col q u))
    * scales (F := Ideal) (ix1 (col q u)) = _
  rw [scales_col]
  exact congrArg (· * _) (gather_columns _ w columns r (col q u) (place q u) (columns_col q u))

/-- and the bias row is the stacked bias. -/
theorem bias_stacked (b : S4096.Idx → EReal) (q : Fin 4) (u : Fin 1024) :
    biasRow (F := Ideal) b (ix2 (0 : Fin 1) (col q u)) = b (ix1 (place q u)) * (factor q : EReal) := by
  have e : biasRow (F := Ideal) b (ix2 (0 : Fin 1) (col q u))
      = Host.gather gather_S4096_S4096x1_S4096_n_0_n_n_0_1_1 b columns (ix1 (col q u)) * scales (F := Ideal) (ix1 (col q u)) := by
    unfold biasRow
    exact shapeCast_a_1a_apply _ _ _ _
  rw [e, scales_col]
  refine congrArg (· * _) ?_
  have h1 : ∀ p : Fin 4096, (Shape.Idx.ofFin p : S4096.Idx) = ix1 p := fun p => funext fun a => by
    obtain rfl : a = 0 := Subsingleton.elim _ _
    rfl
  have h2 : StableHlo.Predicate.ixP (col q u) = ix2 (col q u) (0 : Fin 1) := funext fun a => by
    match a with
    | ⟨0, _⟩ => rfl
    | ⟨1, _⟩ => rfl
  have hp := (place q u).isLt
  rw [← h1, StableHlo.Predicate.gather_take _ rfl rfl rfl rfl b columns (col q u) (by decide), ← h1]
  refine congrArg (fun p => b (Shape.Idx.ofFin p)) (Fin.ext ?_)
  show min (columns (StableHlo.Predicate.ixP (col q u))).toInt.toNat (4096 - 1) = (place q u).val
  rw [h2, columns_col]
  omega

/-- Row `128 t + b` of the row permutation holds a one in column `8 b + t` and zeros elsewhere. -/
theorem permutation_apply (t : Fin 8) (b : Fin 128) (r k : Fin 1024) (hr : r.val = 128 * t.val + b.val) :
    permutation (F := Ideal) (ix2 r k) = if k.val = 8 * b.val + t.val then 1 else 0 := by
  have e : Words.pickedWord (BitVec.ofNat 32 r.val) = BitVec.ofNat 32 (8 * b.val + t.val) := by
    rw [hr]; exact Words.pickedWord_row t b
  show (((IntOp.cmpi .eq (Words.pickedWord (BitVec.ofNat 32 r.val)) (BitVec.ofNat 32 k.val)).toNat : ℝ) : EReal) = _
  rw [e]
  have hk := k.isLt
  by_cases h : k.val = 8 * b.val + t.val
  · rw [if_pos h, h]
    simp [IntOp.cmpi]
  · have hne : BitVec.ofNat 32 (8 * b.val + t.val) ≠ BitVec.ofNat 32 k.val := by
      intro hh
      have := congrArg BitVec.toNat hh
      rw [BitVec.toNat_ofNat, BitVec.toNat_ofNat] at this
      omega
    rw [if_neg h]
    simp [IntOp.cmpi, hne]

end Cert.KernelIdeal.Chunks
end
-- ==== Proof.FirstPoint.lean ====
/- The first grid point's run of the body: its stores and reads, found step by step to be the one step of Chunks.lean over a hidden and a
   cell state stored as zero. -/
module

public import proofs.«01_k».proof.Proof.Loads

@[expose] public section

set_option maxRecDepth 16384

noncomputable section

namespace Cert.KernelIdeal.Chunks

open Idealize.ShloMosaic Idealize.ShloMosaic.TcCoe Cert.KernelIdeal Cert.KernelIdeal.Gen

variable {F : FTy → Type} [FloatOps F]
  (c : Dev nD) (i : grid0.Coords)
  (arg1 : Memref sig .tc .vmem S128x8x512 .f32) (harg1 : arg1.IsWhole) (arg2 : Memref sig .tc .vmem S1024x1024 .bf16) (harg2 : arg2.IsWhole)
  (arg3 : Memref sig .tc .vmem S512x4096 .bf16) (harg3 : arg3.IsWhole) (arg4 : Memref sig .tc .vmem S1024x4096 .bf16) (harg4 : arg4.IsWhole)
  (arg5 : Memref sig .tc .vmem S1x4096 .f32) (harg5 : arg5.IsWhole) (arg6 : Memref sig .tc .vmem S128x1024 .f32) (harg6 : arg6.IsWhole)
  (arg7 : Memref sig .tc .vmem S128x1024 .f32) (harg7 : arg7.IsWhole) (arg8 : Memref sig .tc .vmem S1024x4096 .f32) (harg8 : arg8.IsWhole)
  (arg9 : Memref sig .tc .vmem S128x1024 .bf16) (harg9 : arg9.IsWhole) (arg10 : Memref sig .tc .vmem S128x1024 .f32) (harg10 : arg10.IsWhole)
  (x0 : Vec F S128x8x512 .f32) (x1 : Vec F S1024x1024 .bf16) (x2 : Vec F S512x4096 .bf16) (x3 : Vec F S1024x4096 .bf16) (x4 : Vec F S1x4096 .f32)
  (xs1 : Vec F S128x1024 .bf16) (xs2 : Vec F S128x1024 .f32)

/-- The gates of step `n` at the first grid point. -/
def gateA : ℕ → FVec F S128x4096 .f32
  | 0 => kernelRun0_A.sl.r c arg1 harg1 arg2 harg2 arg3 harg3 arg4 harg4 arg5 harg5 arg8 arg9 x0 x1 x2 x3 x4
  | 1 => kernelRun0_A.sl.r_12 c arg1 harg1 arg2 harg2 arg3 harg3 arg4 harg4 arg5 harg5 arg8 arg9 arg10 x0 x1 x2 x3 x4
  | 2 => kernelRun0_A.sl.r_25 c arg1 harg1 arg2 harg2 arg3 harg3 arg4 harg4 arg5 harg5 arg8 arg9 arg10 x0 x1 x2 x3 x4
  | 3 => kernelRun0_A.sl.r_38 c arg1 harg1 arg2 harg2 arg3 harg3 arg4 harg4 arg5 harg5 arg8 arg9 arg10 x0 x1 x2 x3 x4
  | 4 => kernelRun0_A.sl.r_52 c arg1 harg1 arg2 harg2 arg3 harg3 arg4 harg4 arg5 harg5 arg8 arg9 arg10 x0 x1 x2 x3 x4
  | 5 => kernelRun0_A.sl.r_66 c arg1 harg1 arg2 harg2 arg3 harg3 arg4 harg4 arg5 harg5 arg8 arg9 arg10 x0 x1 x2 x3 x4
  | 6 => kernelRun0_A.sl.r_81 c arg1 harg1 arg2 harg2 arg3 harg3 arg4 harg4 arg5 harg5 arg8 arg9 arg10 x0 x1 x2 x3 x4
  | _ => kernelRun0_A.sl.r_95 c arg1 harg1 arg2 harg2 arg3 harg3 arg4 harg4 arg5 harg5 arg8 arg9 arg10 x0 x1 x2 x3 x4

/-- The stores into the cell-state buffer after steps `0 … n` at the first grid point. -/
def listA : ℕ → Stores F
  | 0 => kernelRun0_A.sl.HS2_5 c arg1 harg1 arg2 harg2 arg3 harg3 arg4 harg4 arg5 harg5 arg8 arg9 arg10 x0 x1 x2 x3 x4
  | 1 => kernelRun0_A.sl.HS2_9 c arg1 harg1 arg2 harg2 arg3 harg3 arg4 harg4 arg5 harg5 arg8 arg9 arg10 x0 x1 x2 x3 x4
  | 2 => kernelRun0_A.sl.HS2_13 c arg1 harg1 arg2 harg2 arg3 harg3 arg4 harg4 arg5 harg5 arg8 arg9 arg10 x0 x1 x2 x3 x4
  | 3 => kernelRun0_A.sl.HS2_17 c arg1 harg1 arg2 harg2 arg3 harg3 arg4 harg4 arg5 harg5 arg8 arg9 arg10 x0 x1 x2 x3 x4
  | 4 => kernelRun0_A.sl.HS2_21 c arg1 harg1 arg2 harg2 arg3 harg3 arg4 harg4 arg5 harg5 arg8 arg9 arg10 x0 x1 x2 x3 x4
  | 5 => kernelRun0_A.sl.HS2_25 c arg1 harg1 arg2 harg2 arg3 harg3 arg4 harg4 arg5 harg5 arg8 arg9 arg10 x0 x1 x2 x3 x4
  | _ => kernelRun0_A.sl.HS2_29 c arg1 harg1 arg2 harg2 arg3 harg3 arg4 harg4 arg5 harg5 arg8 arg9 arg10 x0 x1 x2 x3 x4

/-- They are a run of the step. -/
theorem traceA : Trace (F := F) arg10.view (recurrent arg4 harg4 x3) (projection arg1 harg1 arg2 harg2 arg3 harg3 arg5 harg5 arg8 x0 x1 x2 x4)
    (arg9.view.readCov kernelRun0_A.sl.HS1_1 (Rect.unit ![0, 0] S128x1024.size inb_S128x1024_S128x1024_0_0).toLoadRect)
    (old0 arg10.view kernelRun0_A.sl.HS2_1) (old1 arg10.view (kernelRun0_A.sl.r c arg1 harg1 arg2 harg2 arg3 harg3 arg4 harg4 arg5 harg5 arg8 arg9 x0 x1 x2 x3 x4) kernelRun0_A.sl.HS2_1) (old2 arg10.view (kernelRun0_A.sl.r c arg1 harg1 arg2 harg2 arg3 harg3 arg4 harg4 arg5 harg5 arg8 arg9 x0 x1 x2 x3 x4) kernelRun0_A.sl.HS2_1) (old3 arg10.view (kernelRun0_A.sl.r c arg1 harg1 arg2 harg2 arg3 harg3 arg4 harg4 arg5 harg5 arg8 arg9 x0 x1 x2 x3 x4) kernelRun0_A.sl.HS2_1) kernelRun0_A.sl.HS2_1
    (gateA c arg1 harg1 arg2 harg2 arg3 harg3 arg4 harg4 arg5 harg5 arg8 arg9 arg10 x0 x1 x2 x3 x4) (listA c arg1 harg1 arg2 harg2 arg3 harg3 arg4 harg4 arg5 harg5 arg8 arg9 arg10 x0 x1 x2 x3 x4) where
  gate_zero := rfl
  list_zero := rfl
  gate_one := rfl
  list_succ := fun
    | 0, _ => rfl
    | 1, _ => rfl
    | 2, _ => rfl
    | 3, _ => rfl
    | 4, _ => rfl
    | 5, _ => rfl
  gate_succ := fun
    | 0, _ => rfl
    | 1, _ => rfl
    | 2, _ => rfl
    | 3, _ => rfl
    | 4, _ => rfl
    | 5, _ => rfl

/-- The first result's stores are the last step's hidden chunks; -/
theorem hiddenStoresA (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).1
    = [⟨chunk 3, hidden 3 ((gateA c arg1 harg1 arg2 harg2 arg3 harg3 arg4 harg4 arg5 harg5 arg8 arg9 arg10 x0 x1 x2 x3 x4) 7) (old3 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 2, hidden 2 ((gateA c arg1 harg1 arg2 harg2 arg3 harg3 arg4 harg4 arg5 harg5 arg8 arg9 arg10 x0 x1 x2 x3 x4) 7) (old2 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 1, hidden 1 ((gateA c arg1 harg1 arg2 harg2 arg3 harg3 arg4 harg4 arg5 harg5 arg8 arg9 arg10 x0 x1 x2 x3 x4) 7) (old1 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 0, hidden 0 ((gateA c arg1 harg1 arg2 harg2 arg3 harg3 arg4 harg4 arg5 harg5 arg8 arg9 arg10 x0 x1 x2 x3 x4) 7) (old0 arg10.view ((listA c arg1 harg1 arg2 harg2 arg3 harg3 arg4 harg4 arg5 harg5 arg8 arg9 arg10 x0 x1 x2 x3 x4) 6))⟩] := rfl

/-- the second's, its cell chunks; -/
theorem cellStoresA (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.1
    = [⟨chunk 3, cell 3 ((gateA c arg1 harg1 arg2 harg2 arg3 harg3 arg4 harg4 arg5 harg5 arg8 arg9 arg10 x0 x1 x2 x3 x4) 7) (old3 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 2, cell 2 ((gateA c arg1 harg1 arg2 harg2 arg3 harg3 arg4 harg4 arg5 harg5 arg8 arg9 arg10 x0 x1 x2 x3 x4) 7) (old2 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 1, cell 1 ((gateA c arg1 harg1 arg2 harg2 arg3 harg3 arg4 harg4 arg5 harg5 arg8 arg9 arg10 x0 x1 x2 x3 x4) 7) (old1 arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6))⟩, ⟨chunk 0, cell 0 ((gateA c arg1 harg1 arg2 harg2 arg3 harg3 arg4 harg4 arg5 harg5 arg8 arg9 arg10 x0 x1 x2 x3 x4) 7) (old0 arg10.view ((listA c arg1 harg1 arg2 harg2 arg3 harg3 arg4 harg4 arg5 harg5 arg8 arg9 arg10 x0 x1 x2 x3 x4) 6))⟩] := rfl

/-- the hidden state carried on is the last step's; -/
theorem hiddenKeptA (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.2.1
    = ⟨Rect.unit ![0, 0] S128x1024.size inb_S128x1024_S128x1024_0_0, shapeCast S128x1024 (after arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6)) shapeCasts_S128x1024_S128x1024⟩ :: kernelRun0_A.sl.HS1_1 := rfl

/-- and the stores into the cell state are those of eight steps. -/
theorem cellKeptA (hc0 : cond0_0 i) : (kernelRun0_A c i arg1 harg1 arg2 harg2 arg3 harg3 arg4 harg4 arg5 harg5 arg6 harg6 arg7 harg7 arg8 harg8 arg9 harg9 arg10 harg10 hc0 x0 x1 x2 x3 x4).2.2.2.1
    = more arg10.view ((gateA c arg1 harg1 arg2 harg2 arg3 harg3 arg4 harg4 arg5 harg5 arg8 arg9 arg10 x0 x1 x2 x3 x4) 7) ((listA c arg1 harg1 arg2 harg2 arg3 harg3 arg4 harg4 arg5 harg5 arg8 arg9 arg10 x0 x1 x2 x3 x4) 6) := rfl

end Cert.KernelIdeal.Chunks

end
-- ==== Proof.LaterPoints.lean ====
/- The run of the body at every grid point after the first: its stores and reads, found step by step to be the one step of Chunks.lean over
   the hidden and cell states that the point before left. -/
module

public import proofs.«01_k».proof.Proof.Loads

@[expose] public section

set_option maxRecDepth 16384

noncomputable section

namespace Cert.KernelIdeal.Chunks

open Idealize.ShloMosaic Idealize.ShloMosaic.TcCoe Cert.KernelIdeal Cert.KernelIdeal.Gen

variable {F : FTy → Type} [FloatOps F]
  (c : Dev nD) (i : grid0.Coords)
  (arg1 : Memref sig .tc .vmem S128x8x512 .f32) (harg1 : arg1.IsWhole) (arg2 : Memref sig .tc .vmem S1024x1024 .bf16) (harg2 : arg2.IsWhole)
  (arg3 : Memref sig .tc .vmem S512x4096 .bf16) (harg3 : arg3.IsWhole) (arg4 : Memref sig .tc .vmem S1024x4096 .bf16) (harg4 : arg4.IsWhole)
  (arg5 : Memref sig .tc .vmem S1x4096 .f32) (harg5 : arg5.IsWhole) (arg6 : Memref sig .tc .vmem S128x1024 .f32) (harg6 : arg6.IsWhole)
  (arg7 : Memref sig .tc .vmem S128x1024 .f32) (harg7 : arg7.IsWhole) (arg8 : Memref sig .tc .vmem S1024x4096 .f32) (harg8 : arg8.IsWhole)
  (arg9 : Memref sig .tc .vmem S128x1024 .bf16) (harg9 : arg9.IsWhole) (arg10 : Memref sig .tc .vmem S128x1024 .f32) (harg10 : arg10.IsWhole)
  (x0 : Vec F S128x8x512 .f32) (x1 : Vec F S1024x1024 .bf16) (x2 : Vec F S512x4096 .bf16) (x3 : Vec F S1024x4096 .bf16) (x4 : Vec F S1x4096 .f32)
  (xs1 : Vec F S128x1024 .bf16) (xs2 : Vec F S128x1024 .f32)

/-- The gates of step `n` at every later grid point. -/
def gateB : ℕ → FVec F S128x4096 .f32
  | 0 => kernelRun0_B.sl.r c arg1 harg1 arg2 harg2 arg3 harg3 arg4 harg4 arg5 harg5 arg8 arg9 harg9 x0 x1 x2 x3 x4 xs1
  | 1 => kernelRun0_B.sl.r_12 c arg1 harg1 arg2 harg2 arg3 harg3 arg4 harg4 arg5 harg5 arg8 arg9 harg9 arg10 harg10 x0 x1 x2 x3 x4 xs1 xs2
  | 2 => kernelRun0_B.sl.r_25 c arg1 harg1 arg2 harg2 arg3 harg3 arg4 harg4 arg5 harg5 arg8 arg9 harg9 arg10 harg10 x0 x1 x2 x3 x4 xs1 xs2
  | 3 => kernelRun0_B.sl.r_38 c arg1 harg1 arg2 harg2 arg3 harg3 arg4 harg4 arg5 harg5 arg8 arg9 harg9 arg10 harg10 x0 x1 x2 x3 x4 xs1 xs2
  | 4 => kernelRun0_B.sl.r_52 c arg1 harg1 arg2 harg2 arg3 harg3 arg4 harg4 arg5 harg5 arg8 arg9 harg9 arg10 harg10 x0 x1 x2 x3 x4 xs1 xs2
  | 5 => kernelRun0_B.sl.r_66 c arg1 harg1 arg2 harg2 arg3 harg3 arg4 harg4 arg5 harg5 arg8 arg9 harg9 arg10 harg10 x0 x1 x2 x3 x4 xs1 xs2
  | 6 => kernelRun0_B.sl.r_81 c arg1 harg1 arg2 harg2 arg3 harg3 arg4 harg4 arg5 harg5 arg8 arg9 harg9 arg10 harg10 x0 x1 x2 x3 x4 xs1 xs2
  | _ => kernelRun0_B.sl.r_95 c arg1 harg1 arg2 harg2 arg3 harg3 arg4 harg4 arg5 harg5 arg8 arg9 harg9 arg10 harg10 x0 x1 x2 x3 x4 xs1 xs2

/-- The stores into the cell-state buffer after steps `0 … n` at every later grid point. -/
def listB : ℕ → Stores F
  | 0 => kernelRun0_B.sl.HS2_4 c arg1 harg1 arg2 harg2 arg3 harg3 arg4 harg4 arg5 harg5 arg8 arg9 harg9 arg10 harg10 x0 x1 x2 x3 x4 xs1 xs2
  | 1 => kernelRun0_B.sl.HS2_8 c arg1 harg1 arg2 harg2 arg3 harg3 arg4 harg4 arg5 harg5 arg8 arg9 harg9 arg10 harg10 x0 x1 x2 x3 x4 xs1 xs2
  | 2 => kernelRun0_B.sl.HS2_12 c arg1 harg1 arg2 harg2 arg3 harg3 arg4 harg4 arg5 harg5 arg8 arg9 harg9 arg10 harg10 x0 x1 x2 x3 x4 xs1 xs2
  | 3 => kernelRun0_B.sl.HS2_16 c arg1 harg1 arg2 harg2 arg3 harg3 arg4 harg4 arg5 harg5 arg8 arg9 harg9 arg10 harg10 x0 x1 x2 x3 x4 xs1 xs2
  | 4 => kernelRun0_B.sl.HS2_20 c arg1 harg1 arg2 harg2 arg3 harg3 arg4 harg4 arg5 harg5 arg8 arg9 harg9 arg10 harg10 x0 x1 x2 x3 x4 xs1 xs2
  | 5 => kernelRun0_B.sl.HS2_24 c arg1 harg1 arg2 harg2 arg3 harg3 arg4 harg4 arg5 harg5 arg8 arg9 harg9 arg10 harg10 x0 x1 x2 x3 x4 xs1 xs2
  | _ => kernelRun0_B.sl.HS2_28 c arg1 harg1 arg2 harg2 arg3 harg3 arg4 harg4 arg5 harg5 arg8 arg9 harg9 arg10 harg10 x0 x1 x2 x3 x4 xs1 xs2

/-- They are a run of the step. -/
theorem traceB : Trace (F := F) arg10.view (recurrent arg4 harg4 x3) (projection arg1 harg1 arg2 harg2 arg3 harg3 arg5 harg5 arg8 x0 x1 x2 x4)
    (View.readAt (Elt F) arg9.view (Rect.unit ![0, 0] S128x1024.size inb_S128x1024_S128x1024_0_0).toLoadRect (harg9.unread xs1))
    (View.readAt (Elt F) arg10.view (chunk 0).toLoadRect (harg10.unread xs2)) (View.readAt (Elt F) arg10.view (chunk 1).toLoadRect (harg10.unread xs2)) (View.readAt (Elt F) arg10.view (chunk 2).toLoadRect (harg10.unread xs2)) (View.readAt (Elt F) arg10.view (chunk 3).toLoadRect (harg10.unread xs2)) []
    (gateB c arg1 harg1 arg2 harg2 arg3 harg3 arg4 harg4 arg5 harg5 arg8 arg9 harg9 arg10 harg10 x0 x1 x2 x3 x4 xs1 xs2) (listB c arg1 harg1 arg2 harg2 arg3 harg3 arg4 harg4 arg5 harg5 arg8 arg9 harg9 arg10 harg10 x0 x1 x2 x3 x4 xs1 xs2) where
  gate_zero := rfl
  list_zero := rfl
  gate_one := rfl
  list_succ := fun
    | 0, _ => rfl
    | 1, _ => rfl
    | 2, _ => rfl
    | 3, _ => rfl
    | 4, _ => rfl
    | 5, _ => rfl
  gate_succ := fun
    | 0, _ => rfl
    | 1, _ => rfl
    | 2, _ => rfl
    | 3, _ => rfl
    | 4, _ => rfl
    | 5, _ => rfl

/-- The first result's stores are the last step's hidden chunks; -/
theorem hiddenStoresB (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs1 xs2).1
    = [⟨chunk 3, hidden 3 ((gateB c arg1 harg1 arg2 harg2 arg3 harg3 arg4 harg4 arg5 harg5 arg8 arg9 harg9 arg10 harg10 x0 x1 x2 x3 x4 xs1 xs2) 7) (old3 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 2, hidden 2 ((gateB c arg1 harg1 arg2 harg2 arg3 harg3 arg4 harg4 arg5 harg5 arg8 arg9 harg9 arg10 harg10 x0 x1 x2 x3 x4 xs1 xs2) 7) (old2 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 1, hidden 1 ((gateB c arg1 harg1 arg2 harg2 arg3 harg3 arg4 harg4 arg5 harg5 arg8 arg9 harg9 arg10 harg10 x0 x1 x2 x3 x4 xs1 xs2) 7) (old1 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 0, hidden 0 ((gateB c arg1 harg1 arg2 harg2 arg3 harg3 arg4 harg4 arg5 harg5 arg8 arg9 harg9 arg10 harg10 x0 x1 x2 x3 x4 xs1 xs2) 7) (old0 arg10.view ((listB c arg1 harg1 arg2 harg2 arg3 harg3 arg4 harg4 arg5 harg5 arg8 arg9 harg9 arg10 harg10 x0 x1 x2 x3 x4 xs1 xs2) 6))⟩] := rfl

/-- the second's, its cell chunks; -/
theorem cellStoresB (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs1 xs2).2.1
    = [⟨chunk 3, cell 3 ((gateB c arg1 harg1 arg2 harg2 arg3 harg3 arg4 harg4 arg5 harg5 arg8 arg9 harg9 arg10 harg10 x0 x1 x2 x3 x4 xs1 xs2) 7) (old3 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 2, cell 2 ((gateB c arg1 harg1 arg2 harg2 arg3 harg3 arg4 harg4 arg5 harg5 arg8 arg9 harg9 arg10 harg10 x0 x1 x2 x3 x4 xs1 xs2) 7) (old2 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 1, cell 1 ((gateB c arg1 harg1 arg2 harg2 arg3 harg3 arg4 harg4 arg5 harg5 arg8 arg9 harg9 arg10 harg10 x0 x1 x2 x3 x4 xs1 xs2) 7) (old1 arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6))⟩, ⟨chunk 0, cell 0 ((gateB c arg1 harg1 arg2 harg2 arg3 harg3 arg4 harg4 arg5 harg5 arg8 arg9 harg9 arg10 harg10 x0 x1 x2 x3 x4 xs1 xs2) 7) (old0 arg10.view ((listB c arg1 harg1 arg2 harg2 arg3 harg3 arg4 harg4 arg5 harg5 arg8 arg9 harg9 arg10 harg10 x0 x1 x2 x3 x4 xs1 xs2) 6))⟩] := rfl

/-- the hidden state carried on is the last step's; -/
theorem hiddenKeptB (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs1 xs2).2.2.1
    = ⟨Rect.unit ![0, 0] S128x1024.size inb_S128x1024_S128x1024_0_0, shapeCast S128x1024 (after arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6)) shapeCasts_S128x1024_S128x1024⟩ :: [] := rfl

/-- and the stores into the cell state are those of eight steps. -/
theorem cellKeptB (hc0 : ¬cond0_0 i) : (kernelRun0_B c i arg1 harg1 arg2 harg2 arg3 harg3 arg4 harg4 arg5 harg5 arg6 harg6 arg7 harg7 arg8 harg8 arg9 harg9 arg10 harg10 hc0 x0 x1 x2 x3 x4 xs1 xs2).2.2.2.1
    = more arg10.view ((gateB c arg1 harg1 arg2 harg2 arg3 harg3 arg4 harg4 arg5 harg5 arg8 arg9 harg9 arg10 harg10 x0 x1 x2 x3 x4 xs1 xs2) 7) ((listB c arg1 harg1 arg2 harg2 arg3 harg3 arg4 harg4 arg5 harg5 arg8 arg9 harg9 arg10 harg10 x0 x1 x2 x3 x4 xs1 xs2) 6) := rfl

end Cert.KernelIdeal.Chunks

end
-- ==== Proof.Points.lean ====
/- What one grid point leaves, over the extended reals, of what it loads: its two results and its two carried states are the hidden and
   the cell state after eight steps, from the states the point before left, or from the zeros stored at the first point. -/
module

public import proofs.«01_k».proof.Proof.Values
public import proofs.«01_k».proof.Proof.FirstPoint
public import proofs.«01_k».proof.Proof.LaterPoints
public import Idealize.ShloMosaic.Lib.VecWindow

@[expose] public section

set_option maxRecDepth 16384

noncomputable section

namespace Cert.KernelIdeal.Chunks

open Idealize.ShloMosaic Idealize.ShloMosaic.TcCoe Cert.KernelIdeal Cert.KernelIdeal.Gen
open Idealize.ShloMosaic.ValueIdx Idealize.ShloMosaic.View

variable
  (c : Dev nD) (i : grid0.Coords)
  (arg1 : Memref sig .tc .vmem S128x8x512 .f32) (harg1 : arg1.IsWhole) (arg2 : Memref sig .tc .vmem S1024x1024 .bf16) (harg2 : arg2.IsWhole)
  (arg3 : Memref sig .tc .vmem S512x4096 .bf16) (harg3 : arg3.IsWhole) (arg4 : Memref sig .tc .vmem S1024x4096 .bf16) (harg4 : arg4.IsWhole)
  (arg5 : Memref sig .tc .vmem S1x4096 .f32) (harg5 : arg5.IsWhole) (arg6 : Memref sig .tc .vmem S128x1024 .f32) (harg6 : arg6.IsWhole)
  (arg7 : Memref sig .tc .vmem S128x1024 .f32) (harg7 : arg7.IsWhole) (arg8 : Memref sig .tc .vmem S1024x4096 .f32) (harg8 : arg8.IsWhole)
  (arg9 : Memref sig .tc .vmem S128x1024 .bf16) (harg9 : arg9.IsWhole) (arg10 : Memref sig .tc .vmem S128x1024 .f32) (harg10 : arg10.IsWhole)
  (x0 : Vec Ideal S128x8x512 .f32) (x1 : Vec Ideal S1024x1024 .bf16) (x2 : Vec Ideal S512x4096 .bf16) (x3 : Vec Ideal S1024x4096 .bf16) (x4 : Vec Ideal S1x4096 .f32)
  (xs1 : Vec Ideal S128x1024 .bf16) (xs2 : Vec Ideal S128x1024 .f32)

/-- The offsets of a load or a store of a whole buffer are zero. -/
theorem offsets_two : (![0, 0] : Fin 2 → ℕ) = fun _ => 0 := by decide

/-- Step `n`'s rows of an array of input projections. -/
def rowsOf (P : S1024x4096.Idx → EReal) (n : ℕ) : GateMap := fun j => P ((rows (Fin.ofNat 8 n)).emb j)

/-- A load of a whole buffer that holds `x` reads `x`. -/
theorem load_whole {s : Shape} {e : EltTy} (a : Memref sig .tc .vmem s e) (h : a.IsWhole) (x : Vec Ideal s e) {off : Fin s.rank → ℕ}
    (inb : ∀ b, off b + s.size b ≤ s.size b) :
    View.readAt (Elt Ideal) a.view (Rect.unit off s.size inb).toLoadRect (h.unread x) = x :=
  (readAt_full a.view _ inb).trans (h.read_unread x)

/-- A load of a chunk of a buffer that holds the state `C` reads that part of it. -/
theorem load_chunk (C : StateMap) (n : Fin 4) :
    View.readAt (Elt Ideal) arg10.view (chunk n).toLoadRect (harg10.unread C) = part n C :=
  funext fun x => congrFun (harg10.read_unread (Val := Elt Ideal) C) ((chunk n).emb x)

/-- The input projections a step reads are its rows of the array the point computes from its loads. -/
theorem projection_eq (n : ℕ) :
    projection (F := Ideal) arg1 harg1 arg2 harg2 arg3 harg3 arg5 harg5 arg8 x0 x1 x2 x4 n = rowsOf (k0_pay4 (F := Ideal) x0 x1 x2 x4) n := by
  unfold projection projected
  rw [readCov_eq_canon', canon_unit_zero (Val := Elt Ideal) (S := S1024x4096) offsets_two, load_whole, load_whole, load_whole, load_whole]
  rfl

/-- The recurrent weights as loaded are the block that holds them. -/
theorem recurrent_eq : recurrent (F := Ideal) arg4 harg4 x3 = x3 := load_whole arg4 harg4 x3 _

/-- What is read back of stores that are `L`, of what `L` leaves. -/
theorem read_back {κ : Kind} {sp : Space} {s : Shape} {e : EltTy} (v : View sig κ sp s e) {K L : List (View.Piece (Elt Ideal) s e)}
    (h : K = L) {X : Vec Ideal s e} (hX : canon L = X) : v.read (Elt Ideal) (v.writes (Elt Ideal) v.junk K) = X := by
  subst h
  exact (read_writes_junk_eq_canon v K).trans hX

/-- What a point leaves, of the states after its eight steps. -/
def leaves (s : StateMap × StateMap) : Vec Ideal S128x1024 .f32 × Vec Ideal S128x1024 .f32 × Vec Ideal S128x1024 .bf16 × Vec Ideal S128x1024 .f32 :=
  (s.1, s.2, s.1, s.2)

/-- The point's eight steps, of its loads, from the states `H` and `C`. -/
def eight (H C : StateMap) : StateMap × StateMap := steps x3 (rowsOf (k0_pay4 (F := Ideal) x0 x1 x2 x4)) H C 8

/-- A later point leaves the states eight steps on from those it finds. -/
theorem later (hc0 : ¬cond0_0 i) :
    (out0_B_5 (F := Ideal) c i arg1 harg1 arg2 harg2 arg3 harg3 arg4 harg4 arg5 harg5 arg6 harg6 arg7 harg7 arg8 harg8 arg9 harg9 arg10 harg10 hc0 x0 x1 x2 x3 x4 xs1 xs2, out0_B_6 (F := Ideal) c i arg1 harg1 arg2 harg2 arg3 harg3 arg4 harg4 arg5 harg5 arg6 harg6 arg7 harg7 arg8 harg8 arg9 harg9 arg10 harg10 hc0 x0 x1 x2 x3 x4 xs1 xs2,
      sout0_B_1 (F := Ideal) c i arg1 harg1 arg2 harg2 arg3 harg3 arg4 harg4 arg5 harg5 arg6 harg6 arg7 harg7 arg8 harg8 arg9 harg9 arg10 harg10 hc0 x0 x1 x2 x3 x4 xs1 xs2, sout0_B_2 (F := Ideal) c i arg1 harg1 arg2 harg2 arg3 harg3 arg4 harg4 arg5 harg5 arg6 harg6 arg7 harg7 arg8 harg8 arg9 harg9 arg10 harg10 hc0 x0 x1 x2 x3 x4 xs1 xs2)
      = leaves (eight x0 x1 x2 x3 x4 xs1 xs2) := by
  have t := traceB (F := Ideal) c arg1 harg1 arg2 harg2 arg3 harg3 arg4 harg4 arg5 harg5 arg8 arg9 harg9 arg10 harg10 x0 x1 x2 x3 x4 xs1 xs2
  rw [load_chunk, load_chunk, load_chunk, load_chunk, recurrent_eq, funext (projection_eq arg1 harg1 arg2 harg2 arg3 harg3 arg5 harg5 arg8 x0 x1 x2 x4),
    load_whole] at t
  obtain ⟨e5, e6, eh, ec⟩ := t.last
  have a5 : out0_B_5 (F := Ideal) c i arg1 harg1 arg2 harg2 arg3 harg3 arg4 harg4 arg5 harg5 arg6 harg6 arg7 harg7 arg8 harg8 arg9 harg9 arg10 harg10 hc0 x0 x1 x2 x3 x4 xs1 xs2 = (eight x0 x1 x2 x3 x4 xs1 xs2).1 := by
    unfold out0_B_5
    exact read_back VO0_5 (hiddenStoresB c i arg1 harg1 arg2 harg2 arg3 harg3 arg4 harg4 arg5 harg5 arg6 harg6 arg7 harg7 arg8 harg8 arg9 harg9 arg10 harg10 x0 x1 x2 x3 x4 xs1 xs2 hc0) e5
  have a6 : out0_B_6 (F := Ideal) c i arg1 harg1 arg2 harg2 arg3 harg3 arg4 harg4 arg5 harg5 arg6 harg6 arg7 harg7 arg8 harg8 arg9 harg9 arg10 harg10 hc0 x0 x1 x2 x3 x4 xs1 xs2 = (eight x0 x1 x2 x3 x4 xs1 xs2).2 := by
    unfold out0_B_6
    exact read_back VO0_6 (cellStoresB c i arg1 harg1 arg2 harg2 arg3 harg3 arg4 harg4 arg5 harg5 arg6 harg6 arg7 harg7 arg8 harg8 arg9 harg9 arg10 harg10 x0 x1 x2 x3 x4 xs1 xs2 hc0) e6
  have ah : sout0_B_1 (F := Ideal) c i arg1 harg1 arg2 harg2 arg3 harg3 arg4 harg4 arg5 harg5 arg6 harg6 arg7 harg7 arg8 harg8 arg9 harg9 arg10 harg10 hc0 x0 x1 x2 x3 x4 xs1 xs2 = (eight x0 x1 x2 x3 x4 xs1 xs2).1 := by
    unfold sout0_B_1
    exact read_back VS0_1 (hiddenKeptB c i arg1 harg1 arg2 harg2 arg3 harg3 arg4 harg4 arg5 harg5 arg6 harg6 arg7 harg7 arg8 harg8 arg9 harg9 arg10 harg10 x0 x1 x2 x3 x4 xs1 xs2 hc0)
      ((canon_cons_unit_zero (Val := Elt Ideal) (S := S128x1024) offsets_two _ _ _).trans ((shapeCast_self _ _).trans eh))
  have ac : sout0_B_2 (F := Ideal) c i arg1 harg1 arg2 harg2 arg3 harg3 arg4 harg4 arg5 harg5 arg6 harg6 arg7 harg7 arg8 harg8 arg9 harg9 arg10 harg10 hc0 x0 x1 x2 x3 x4 xs1 xs2 = (eight x0 x1 x2 x3 x4 xs1 xs2).2 := by
    unfold sout0_B_2
    exact read_back VS0_2 (cellKeptB c i arg1 harg1 arg2 harg2 arg3 harg3 arg4 harg4 arg5 harg5 arg6 harg6 arg7 harg7 arg8 harg8 arg9 harg9 arg10 harg10 x0 x1 x2 x3 x4 xs1 xs2 hc0) ec
  rw [a5, a6, ah, ac]
  rfl

/-- The first point leaves the states eight steps on from the zeros it stores. -/
theorem first (hc0 : cond0_0 i) :
    (out0_A_5 (F := Ideal) c i arg1 harg1 arg2 harg2 arg3 harg3 arg4 harg4 arg5 harg5 arg6 harg6 arg7 harg7 arg8 harg8 arg9 harg9 arg10 harg10 hc0 x0 x1 x2 x3 x4, out0_A_6 (F := Ideal) c i arg1 harg1 arg2 harg2 arg3 harg3 arg4 harg4 arg5 harg5 arg6 harg6 arg7 harg7 arg8 harg8 arg9 harg9 arg10 harg10 hc0 x0 x1 x2 x3 x4,
      sout0_A_1 (F := Ideal) c i arg1 harg1 arg2 harg2 arg3 harg3 arg4 harg4 arg5 harg5 arg6 harg6 arg7 harg7 arg8 harg8 arg9 harg9 arg10 harg10 hc0 x0 x1 x2 x3 x4, sout0_A_2 (F := Ideal) c i arg1 harg1 arg2 harg2 arg3 harg3 arg4 harg4 arg5 harg5 arg6 harg6 arg7 harg7 arg8 harg8 arg9 harg9 arg10 harg10 hc0 x0 x1 x2 x3 x4)
      = leaves (eight x0 x1 x2 x3 x4 (k0_pay2 (F := Ideal)) (k0_pay3 (F := Ideal))) := by
  have eK : canon (kernelRun0_A.sl.HS2_1 (F := Ideal)) = k0_pay3 (F := Ideal) := canon_unit_zero (Val := Elt Ideal) (S := S128x1024) offsets_two _ _
  have eH : arg9.view.readCov (kernelRun0_A.sl.HS1_1 (F := Ideal)) (Rect.unit ![0, 0] S128x1024.size inb_S128x1024_S128x1024_0_0).toLoadRect
      = k0_pay2 (F := Ideal) := readCov_unit_zero (Val := Elt Ideal) (S := S128x1024) arg9.view offsets_two _ _
  have t := traceA (F := Ideal) c arg1 harg1 arg2 harg2 arg3 harg3 arg4 harg4 arg5 harg5 arg8 arg9 arg10 x0 x1 x2 x3 x4
  rw [old0_part, old1_part, old2_part, old3_part, recurrent_eq, funext (projection_eq arg1 harg1 arg2 harg2 arg3 harg3 arg5 harg5 arg8 x0 x1 x2 x4),
    eH, eK] at t
  obtain ⟨e5, e6, eh, ec⟩ := t.last
  have a5 : out0_A_5 (F := Ideal) c i arg1 harg1 arg2 harg2 arg3 harg3 arg4 harg4 arg5 harg5 arg6 harg6 arg7 harg7 arg8 harg8 arg9 harg9 arg10 harg10 hc0 x0 x1 x2 x3 x4 = (eight x0 x1 x2 x3 x4 (k0_pay2 (F := Ideal)) (k0_pay3 (F := Ideal))).1 := by
    unfold out0_A_5
    exact read_back VO0_5 (hiddenStoresA c i arg1 harg1 arg2 harg2 arg3 harg3 arg4 harg4 arg5 harg5 arg6 harg6 arg7 harg7 arg8 harg8 arg9 harg9 arg10 harg10 x0 x1 x2 x3 x4 hc0) e5
  have a6 : out0_A_6 (F := Ideal) c i arg1 harg1 arg2 harg2 arg3 harg3 arg4 harg4 arg5 harg5 arg6 harg6 arg7 harg7 arg8 harg8 arg9 harg9 arg10 harg10 hc0 x0 x1 x2 x3 x4 = (eight x0 x1 x2 x3 x4 (k0_pay2 (F := Ideal)) (k0_pay3 (F := Ideal))).2 := by
    unfold out0_A_6
    exact read_back VO0_6 (cellStoresA c i arg1 harg1 arg2 harg2 arg3 harg3 arg4 harg4 arg5 harg5 arg6 harg6 arg7 harg7 arg8 harg8 arg9 harg9 arg10 harg10 x0 x1 x2 x3 x4 hc0) e6
  have ah : sout0_A_1 (F := Ideal) c i arg1 harg1 arg2 harg2 arg3 harg3 arg4 harg4 arg5 harg5 arg6 harg6 arg7 harg7 arg8 harg8 arg9 harg9 arg10 harg10 hc0 x0 x1 x2 x3 x4 = (eight x0 x1 x2 x3 x4 (k0_pay2 (F := Ideal)) (k0_pay3 (F := Ideal))).1 := by
    unfold sout0_A_1
    exact read_back VS0_1 (hiddenKeptA c i arg1 harg1 arg2 harg2 arg3 harg3 arg4 harg4 arg5 harg5 arg6 harg6 arg7 harg7 arg8 harg8 arg9 harg9 arg10 harg10 x0 x1 x2 x3 x4 hc0)
      ((canon_cons_unit_zero (Val := Elt Ideal) (S := S128x1024) offsets_two _ _ _).trans ((shapeCast_self _ _).trans eh))
  have ac : sout0_A_2 (F := Ideal) c i arg1 harg1 arg2 harg2 arg3 harg3 arg4 harg4 arg5 harg5 arg6 harg6 arg7 harg7 arg8 harg8 arg9 harg9 arg10 harg10 hc0 x0 x1 x2 x3 x4 = (eight x0 x1 x2 x3 x4 (k0_pay2 (F := Ideal)) (k0_pay3 (F := Ideal))).2 := by
    unfold sout0_A_2
    exact read_back VS0_2 (cellKeptA c i arg1 harg1 arg2 harg2 arg3 harg3 arg4 harg4 arg5 harg5 arg6 harg6 arg7 harg7 arg8 harg8 arg9 harg9 arg10 harg10 x0 x1 x2 x3 x4 hc0) ec
  rw [a5, a6, ah, ac]
  rfl

end Cert.KernelIdeal.Chunks

end
-- ==== Proof.Projection.lean ====
module

public import proofs.«01_k».proof.Proof.Stacking
public import proofs.«01_k».proof.Proof.Points
@[expose] public section

/-!
# What a point projects

A point permutes the rows of its input block so that each of its eight steps finds its rows together, multiplies by the
input weights and adds the bias. Here the rows of step `n` are read as the input's part of the gates at that step.
-/

set_option maxRecDepth 16384

noncomputable section

namespace Cert.KernelIdeal.Chunks

open Idealize.ShloMosaic Idealize.ShloMosaic.TcCoe Idealize.ShloMosaic.ValueIdx Cert.KernelIdeal Cert.KernelIdeal.Gen Cert.KernelIdeal.Prefix

variable (x0 : S128x8x512.Idx → EReal) (x2 : S512x4096.Idx → EReal) (x4 : S1x4096.Idx → EReal)

/-- The permuted block: row `128 n + b` is batch entry `b` at step `n`. -/
theorem permuted (n : Fin 8) (b : Fin 128) (r : Fin 1024) (hr : r.val = 128 * n.val + b.val) (d : Fin 512) :
    matmul (F := Ideal) dot_S1024x1024_S1024x512_S1024x512_1_0_0_1_n_n none
        (permutation (F := Ideal))
        (shapeCast S1024x512 (truncf (F := Ideal) .bf16 x0 bitsLt_bf16_f32) shapeCasts_S128x8x512_S1024x512)
        (constant S1024x512 .f32 0x00000000#32) (ix2 r d)
      = x0 (ix3 b n d) := by
  refine (Ideal.matmul_plain_apply (M := 1024) (K := 1024) (N := 512) (φ₁ := .bf16) (φ₂ := .bf16) none _ _ _ r d).trans ?_
  refine (congrArg (· + _) Ideal.ofBits_zero_f32).trans ((zero_add _).trans ?_)
  have hn := n.isLt
  have hb := b.isLt
  let i : Fin 1024 := ⟨8 * b.val + n.val, by omega⟩
  refine (sum_picked
    (fun k : Fin 1024 => (shapeCast S1024x512 (truncf (F := Ideal) .bf16 x0 bitsLt_bf16_f32) shapeCasts_S128x8x512_S1024x512) (ix2 k d))
    (fun k : Fin 1024 => permutation (F := Ideal) (ix2 r k)) i ?_ ?_).trans ?_
  · exact (permutation_apply n b r i hr).trans (if_pos rfl)
  · exact fun k hk => (permutation_apply n b r k hr).trans (if_neg fun h => hk (Fin.ext h))
  · refine shapeCast_apply (t := S1024x512) _ _ _ (ix3 b n d) ?_
    rw [Shape.rowMajor_val_two, Shape.rowMajor_val_three]
    show (b.val * 8 + n.val) * 512 + d.val = (8 * b.val + n.val) * 512 + d.val
    omega

/-- The point's projection at row `128 n + b`: batch entry `b` at step `n` times the input weights, plus the bias. -/
theorem projection_apply (n : Fin 8) (b : Fin 128) (k : Fin 4096) :
    rowsOf (k0_pay4 (F := Ideal) x0 (permutation (F := Ideal)) x2 x4) n.val (ix2 b k)
      = (∑ d : Fin 512, x0 (ix3 b n d) * x2 (ix2 d k)) + x4 (ix2 (0 : Fin 1) k) := by
  have hn := n.isLt
  have hb := b.isLt
  let r : Fin 1024 := ⟨128 * n.val + b.val, by omega⟩
  have hrow : ((rows (Fin.ofNat 8 n.val)).emb (ix2 b k)) = (ix2 r k : S1024x4096.Idx) := funext fun a => Fin.ext (by
    match a with
    | ⟨0, _⟩ =>
      show 128 * (n.val % 8) + 1 * b.val = 128 * n.val + b.val
      rw [Nat.mod_eq_of_lt hn]
      omega
    | ⟨1, _⟩ =>
      show 0 + 1 * k.val = k.val
      omega)
  show k0_pay4 (F := Ideal) x0 (permutation (F := Ideal)) x2 x4 ((rows (Fin.ofNat 8 n.val)).emb (ix2 b k)) = _
  rw [hrow]
  unfold k0_pay4
  rw [shapeCast_self, shapeCast_self, shapeCast_self, shapeCast_self]
  refine congrArg₂ (· + ·) ?_ ?_
  · refine (Ideal.matmul_plain_apply (M := 1024) (K := 512) (N := 4096) (φ₁ := .bf16) (φ₂ := .bf16) none _ _ _ r k).trans ?_
    refine (congrArg (· + _) Ideal.ofBits_zero_f32).trans ((zero_add _).trans ?_)
    refine Finset.sum_congr rfl fun d _ => ?_
    exact congrArg (fun z : EReal => z * x2 (ix2 d k)) (permuted x0 n b r rfl d)
  · exact broadcastTo_apply (t := S1024x4096) _ _ _ (ix2 (0 : Fin 1) k) fun a => by
      match a with
      | ⟨0, _⟩ => rfl
      | ⟨1, _⟩ => rfl

/-- So with the stacked weights and bias, and the block of the input that begins at step `8 p`, step `n` of the point finds
    the stacked input part of step `8 p + n`. -/
theorem projection_stacked (x : S128x512x512.Idx → EReal) (w : S512x4096.Idx → EReal) (b : S4096.Idx → EReal) (p n : ℕ)
    (hp : p < 64) (hn : n < 8)
    (hx : ∀ (i : Fin 128) (t : Fin 8) (d : Fin 512), x0 (ix3 i t d) = x (ix3 i (Fin.ofNat 512 (8 * p + t.val)) d)) :
    Stacked (R := 128)
      (rowsOf (k0_pay4 (F := Ideal) x0 (permutation (F := Ideal)) (inputWeights (F := Ideal) w) (biasRow (F := Ideal) b)) n)
      (drive x w b (8 * p + n)) := by
  intro i q u
  refine (projection_apply x0 _ _ ⟨n, hn⟩ i (col q u)).trans ?_
  rw [bias_stacked]
  refine (congrArg (· + _) (Finset.sum_congr rfl fun d _ => ?_)).trans
    ((congrArg (· + _) (sum_scaled (fun d : Fin 512 => x (ix3 i (Fin.ofNat 512 (8 * p + n)) d)) (fun d => w (ix2 d (place q u)))
      (factor q) (factor_nonneg q))).trans (add_scaled _ _ _ (factor_nonneg q)).symm)
  exact congrArg₂ (· * ·) (hx i ⟨n, hn⟩ d) (input_stacked w d q u)

end Cert.KernelIdeal.Chunks
end
-- ==== Proof.Fold.lean ====
module

public import proofs.«01_k».proof.Proof.Projection
public import proofs.«01_k».proof.Proof.Gen.KernelIdeal.Value
@[expose] public section

/-!
# What the grid leaves

The blocks each point reads, and the fold of the points: after point `p` the two results and the two carried states are the
recurrence's states after `8 (p + 1)` steps.
-/

set_option maxRecDepth 16384

noncomputable section

namespace Cert.KernelIdeal.Chunks

open Idealize.ShloMosaic Idealize.ShloMosaic.TcCoe Idealize.ShloMosaic.ValueIdx Cert.KernelIdeal Cert.KernelIdeal.Gen Cert.KernelIdeal.Value Cert.KernelIdeal.Prefix

/-- The blocks' places along the grid: the input's moves by one block each point, the four others stay. -/
theorem block_places : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

variable (m : (ℓ : Loc nD τ sig) → Buf (Elt Ideal) ℓ) (c : Dev nD)

/-- The caller's input, input weights, recurrent weights and bias. -/
abbrev inX : S128x512x512.Idx → EReal := m ((c : Thread nD τ).loc main_arg0)
abbrev inWx : S512x4096.Idx → EReal := m ((c : Thread nD τ).loc main_arg1)
abbrev inWh : S1024x4096.Idx → EReal := m ((c : Thread nD τ).loc main_arg2)
abbrev inB : S4096.Idx → EReal := m ((c : Thread nD τ).loc main_arg3)

/-- The input block of point `t` begins at step `8 t`. -/
theorem block_input (t : Fin cfg0.N) (i : Fin 128) (k : Fin 8) (d : Fin 512) :
    (iblk m c 0 t : S128x8x512.Idx → EReal) (ix3 i k d) = inX m c (ix3 i (Fin.ofNat 512 (8 * t.val + k.val)) d) := by
  obtain ⟨⟨e0, e1, e2⟩, -⟩ := block_places t
  have ht : t.val < 64 := lt_of_lt_of_eq t.isLt N_0
  have hk := k.isLt
  show V m c main_arg0 (((cfg0.win 0).blk t).view.emb (ix3 i k d)) = _
  rw [V_main_arg0]
  refine congrArg (m ((c : Thread nD τ).loc main_arg0)) (funext fun a => Fin.ext ?_)
  match a with
  | ⟨0, _⟩ =>
    show win0_0.index t (0 : Fin 3) * 128 + 1 * i.val = i.val
    rw [e0]; omega
  | ⟨1, _⟩ =>
    show win0_0.index t (1 : Fin 3) * 8 + 1 * k.val = (8 * t.val + k.val) % 512
    rw [e1]; omega
  | ⟨2, _⟩ =>
    show win0_0.index t (2 : Fin 3) * 512 + 1 * d.val = d.val
    rw [e2]; omega

/-- The other four blocks are the whole arrays the host prepared: the permutation, -/
theorem block_permutation (t : Fin cfg0.N) : iblk m c 1 t = permutation (F := Ideal) := by
  obtain ⟨-, ⟨e0, e1⟩, -⟩ := block_places t
  rw [← row_permutation m c]
  refine funext fun y => congrArg (V m c main_call0_v60) (funext fun a => Fin.ext ?_)
  match a with
  | ⟨0, _⟩ =>
    show win0_1.index t (0 : Fin 2) * 1024 + 1 * (y 0).val = (y 0).val
    rw [e0]; omega
  | ⟨1, _⟩ =>
    show win0_1.index t (1 : Fin 2) * 1024 + 1 * (y 1).val = (y 1).val
    rw [e1]; omega

/-- the input weights, -/
theorem block_inputWeights (t : Fin cfg0.N) : iblk m c 2 t = inputWeights (F := Ideal) (inWx m c) := by
  obtain ⟨-, -, ⟨e0, e1⟩, -⟩ := block_places t
  rw [← input_weights m c]
  refine funext fun y => congrArg (V m c main_call0_v25) (funext fun a => Fin.ext ?_)
  match a with
  | ⟨0, _⟩ =>
    show win0_2.index t (0 : Fin 2) * 512 + 1 * (y 0).val = (y 0).val
    rw [e0]; omega
  | ⟨1, _⟩ =>
    show win0_2.index t (1 : Fin 2) * 4096 + 1 * (y 1).val = (y 1).val
    rw [e1]; omega

/-- the recurrent weights, -/
theorem block_recurrentWeights (t : Fin cfg0.N) : iblk m c 3 t = recurrentWeights (F := Ideal) (inWh m c) := by
  obtain ⟨-, -, -, ⟨e0, e1⟩, -⟩ := block_places t
  rw [← recurrent_weights m c]
  refine funext fun y => congrArg (V m c main_call0_v37) (funext fun a => Fin.ext ?_)
  match a with
  | ⟨0, _⟩ =>
    show win0_3.index t (0 : Fin 2) * 1024 + 1 * (y 0).val = (y 0).val
    rw [e0]; omega
  | ⟨1, _⟩ =>
    show win0_3.index t (1 : Fin 2) * 4096 + 1 * (y 1).val = (y 1).val
    rw [e1]; omega

/-- and the bias row. -/
theorem block_bias (t : Fin cfg0.N) : iblk m c 4 t = biasRow (F := Ideal) (inB m c) := by
  obtain ⟨-, -, -, -, e0, e1⟩ := block_places t
  rw [← bias_row m c]
  refine funext fun y => congrArg (V m c main_call0_v47) (funext fun a => Fin.ext ?_)
  match a with
  | ⟨0, _⟩ =>
    show win0_4.index t (0 : Fin 2) * 1 + 1 * (y 0).val = (y 0).val
    rw [e0]; omega
  | ⟨1, _⟩ =>
    show win0_4.index t (1 : Fin 2) * 4096 + 1 * (y 1).val = (y 1).val
    rw [e1]; omega

/-- The recurrence's states after `n` steps on the caller's arrays. -/
def reached (n : ℕ) : StateMap × StateMap := states (drive (inX m c) (inWx m c) (inB m c)) (inWh m c) n

/-- A point's eight steps from the states after `8 t` steps reach those after `8 (t + 1)`. -/
theorem eight_reached (t : Fin cfg0.N) :
    eight (iblk m c 0 t) (iblk m c 1 t) (iblk m c 2 t) (iblk m c 3 t) (iblk m c 4 t)
        (reached m c (8 * t.val)).1 (reached m c (8 * t.val)).2
      = reached m c (8 * (t.val + 1)) := by
  rw [block_permutation, block_inputWeights, block_recurrentWeights, block_bias]
  exact steps_stacked (recurrent_stacked (inWh m c)) (8 * t.val) 8 fun n hn =>
    projection_stacked (iblk m c 0 t) (inX m c) (inWx m c) (inB m c) t.val n (lt_of_lt_of_eq t.isLt N_0) hn (block_input m c t)

/-- The zeros the first point stores are the recurrence's first states. -/
theorem zeros_reached : (k0_pay2 (F := Ideal), k0_pay3 (F := Ideal)) = reached m c 0 := by
  refine Prod.ext (funext fun j => ?_) (funext fun j => ?_)
  · exact (congrFun (shapeCast_self (fun _ : S128x1024.Idx => Ideal.ofBits .bf16 0x0000#16) shapeCasts_S128x1024_S128x1024) j).trans
      Ideal.ofBits_zero_bf16
  · exact (congrFun (shapeCast_self (fun _ : S128x1024.Idx => Ideal.ofBits .f32 0x00000000#32) shapeCasts_S128x1024_S128x1024) j).trans
      Ideal.ofBits_zero_f32

/-- The first point, from whatever it finds, leaves the states after eight steps. -/
theorem first_point (t : Fin cfg0.N) (h0 : t.val % 64 = 0)
    (acc : Vec Ideal S128x1024 .f32 × Vec Ideal S128x1024 .f32 × Vec Ideal S128x1024 .bf16 × Vec Ideal S128x1024 .f32) :
    stAt0 m c t.val t.isLt acc = leaves (reached m c (8 * (t.val + 1))) := by
  have ht : t.val = 0 := by
    have : t.val < 64 := lt_of_lt_of_eq t.isLt N_0
    omega
  have e := eight_reached m c t
  have z : reached m c (8 * t.val) = (k0_pay2 (F := Ideal), k0_pay3 (F := Ideal)) := by
    rw [ht]; exact (zeros_reached m c).symm
  rw [z] at e
  rw [← e]
  exact (stAt0_A m c t acc h0).trans (first _ _ _ _ _ _ _ _ _ _ _ _ _ _ _ _ _ _ _ _ _ _ _ _ _ _ _ _)

/-- A later point, finding the states after `8 t` steps, leaves those after `8 (t + 1)`. -/
theorem later_point (t : Fin cfg0.N) (h0 : ¬t.val % 64 = 0) :
    stAt0 m c t.val t.isLt (leaves (reached m c (8 * t.val))) = leaves (reached m c (8 * (t.val + 1))) := by
  rw [← eight_reached m c t]
  exact (stAt0_B m c t _ h0).trans (later _ _ _ _ _ _ _ _ _ _ _ _ _ _ _ _ _ _ _ _ _ _ _ _ _ _ _ _ _ _)

/-- After point `p` the results and the carried states are the recurrence's states after `8 (p + 1)` steps. -/
theorem fold_reached : ∀ (p : ℕ) (h : 0 + p < cfg0.N),
    Pipeline.accAt (fun n h => stAt0 m c n h junk0) (stAt0 m c) 0 p h = leaves (reached m c (8 * (p + 1)))
  | 0, h => first_point m c ⟨0, h⟩ rfl junk0
  | p + 1, h => by
    have hp : p + 1 < 64 := lt_of_lt_of_eq (lt_of_eq_of_lt (Nat.zero_add _).symm h) N_0
    have ih := fold_reached p (by omega)
    have hl := later_point m c ⟨p + 1, lt_of_eq_of_lt (Nat.zero_add _).symm h⟩ (by show ¬(p + 1) % 64 = 0; omega)
    have hat : ∀ (n : ℕ) (hn : n < cfg0.N), n = p + 1 →
        stAt0 m c n hn (leaves (reached m c (8 * (p + 1)))) = leaves (reached m c (8 * (p + 1 + 1))) := by
      rintro n hn rfl
      exact hl
    rw [Pipeline.accAt_succ, ih]
    exact hat _ _ (Nat.zero_add _)

/-- So the first result is the hidden state after all 512 steps, -/
theorem result_hidden : G5 m c = (reached m c 512).1 := by
  rw [G5_last, fold_reached]
  rfl

/-- and the second is the cell state. -/
theorem result_cell : G6 m c = (reached m c 512).2 := by
  rw [G6_last, fold_reached]
  rfl

end Cert.KernelIdeal.Chunks
end
-- ==== Proof.Reference.lean ====
module

public import proofs.«01_k».proof.Proof.Gen.ReferenceIdeal.StepRun
public import proofs.«01_k».proof.Proof.Lstm
public import proofs.«01_k».proof.Proof.Gen.ReferenceIdeal.Step
public import Idealize.ShloMosaic.Lib.IdealHost
public import Idealize.ShloMosaic.Lib.StackMember
public import Idealize.ShloMosaic.Lib.ValueLayout
@[expose] public section

/-!
# The reference, read

At the ideal values each trip of the reference's loop is one step of the plain recurrence.
-/

set_option maxRecDepth 16384

noncomputable section

namespace Cert.ReferenceIdeal.Trips

open Idealize.ShloMosaic Idealize.ShloMosaic.TcCoe Idealize.ShloMosaic.ValueIdx
open Cert.ReferenceIdeal Cert.ReferenceIdeal.Gen Cert.ReferenceIdeal.Step
open Cert.KernelIdeal.Chunks (StateMap GateMap place drive raw nextCell nextHidden advance states)

variable (x : S128x512x512.Idx → EReal) (w : S512x4096.Idx → EReal) (wh : S1024x4096.Idx → EReal) (b : S4096.Idx → EReal)

/-- The input product at an entry: batch entry `i` at step `n` times column `k` of the input weights. -/
theorem product_apply (i : Fin 128) (n : Fin 512) (k : Fin 4096) :
    A_main_v2 (F := Ideal) x w b (ix3 i n k) = ∑ d : Fin 512, x (ix3 i n d) * w (ix2 d k) := by
  unfold A_main_v2 Host.dotGeneral
  let D := dot_S128x512x512_S512x4096_S128x512x4096_2_0_01_1_n_n
  have hs : D.contr.size ⟨0, by show 0 < 1; decide⟩ = 512 := rfl
  rw [Ideal.dotGeneral_apply, ← Equiv.sum_comp (contrEquiv1 D 512 rfl hs).symm]
  refine Finset.sum_congr rfl fun d _ => ?_
  have hd := contrEquiv1_symm_val D 512 rfl hs d
  have el : D.lhsIdx (ix3 i n k) ((contrEquiv1 D 512 rfl hs).symm d) = ix3 i n d := by
    funext a; apply Fin.ext
    match a with
    | ⟨0, _⟩ => rfl
    | ⟨1, _⟩ => rfl
    | ⟨2, _⟩ => exact hd
  have er : D.rhsIdx (ix3 i n k) ((contrEquiv1 D 512 rfl hs).symm d) = ix2 d k := by
    funext a; apply Fin.ext
    match a with
    | ⟨0, _⟩ => exact hd
    | ⟨1, _⟩ => rfl
  exact congrArg₂ (fun p q => x p * w q) el er

/-- The precomputed input part: step `n` of the transposed array is the recurrence's input part at step `n`. -/
theorem inputs_apply (n : ℕ) (hn : n < 512) (i : Fin 128) (k : Fin 4096) :
    A_main_v6 (F := Ideal) x w b (ix3 (⟨n, hn⟩ : Fin 512) i k) = drive x w b n (ix2 i k) := by
  have e : A_main_v6 (F := Ideal) x w b (ix3 (⟨n, hn⟩ : Fin 512) i k) = A_main_v5 (F := Ideal) x w b (ix3 i (⟨n, hn⟩ : Fin 512) k) := by
    unfold A_main_v6
    refine congrArg (A_main_v5 (F := Ideal) x w b) (funext fun a => ?_)
    match a with
    | ⟨0, _⟩ => rfl
    | ⟨1, _⟩ => rfl
    | ⟨2, _⟩ => rfl
  have h5 : (Fin.ofNat 512 n : Fin 512) = ⟨n, hn⟩ := Fin.ext (Nat.mod_eq_of_lt hn)
  rw [e]
  show A_main_v2 (F := Ideal) x w b (ix3 i (⟨n, hn⟩ : Fin 512) k) + A_main_v4 (F := Ideal) x w b (ix3 i (⟨n, hn⟩ : Fin 512) k)
    = (∑ d : Fin 512, x (ix3 i (Fin.ofNat 512 n) d) * w (ix2 d k)) + b (ix1 k)
  rw [product_apply, h5]
  refine congrArg (_ + ·) (congrArg b (funext fun a => ?_))
  match a with
  | ⟨0, _⟩ => rfl

/-- A loop counter read as a start position is the counter. -/
theorem start_counter (n : ℕ) (hn : n < 512) :
    (min (max (BitVec.ofNat 32 n).toInt 0) ((512 - 1 : ℕ) : ℤ)).toNat = n := by
  have e : (BitVec.ofNat 32 n).toInt = (n : ℤ) := by
    rw [BitVec.toInt_eq_toNat_of_lt (by rw [BitVec.toNat_ofNat]; omega), BitVec.toNat_ofNat]
    omega
  rw [e]
  omega

/-- A trip's slice of the precomputed input part, at the number of its step. -/
theorem slice_apply (n : ℕ) (hn : n < 512) (s : State Ideal) (i : Fin 128) (k : Fin 4096) :
    b3 (F := Ideal) n s (ix2 i k) = s.main_v7_0 (ix3 (⟨n, hn⟩ : Fin 512) i k) := by
  have e : b3 (F := Ideal) n s (ix2 i k) = b2 (F := Ideal) n s (ix3 (0 : Fin 1) i k) := by
    unfold b3
    exact shapeCast_1ab_ab_apply _ _ _ _
  rw [e]
  unfold b2 Host.dynamicSlice
  refine congrArg s.main_v7_0 (funext fun a => Fin.ext ?_)
  match a with
  | ⟨0, _⟩ =>
    show (min (max (BitVec.ofNat 32 n).toInt 0) ((512 - 1 : ℕ) : ℤ)).toNat + 0 = n
    rw [start_counter n hn, Nat.add_zero]
  | ⟨1, _⟩ =>
    show (min (max (0#32).toInt 0) ((128 - 128 : ℕ) : ℤ)).toNat + i.val = i.val
    rw [show (min (max (0#32).toInt 0) ((128 - 128 : ℕ) : ℤ)).toNat = 0 from by decide]
    omega
  | ⟨2, _⟩ =>
    show (min (max (0#32).toInt 0) ((4096 - 4096 : ℕ) : ℤ)).toNat + k.val = k.val
    rw [show (min (max (0#32).toInt 0) ((4096 - 4096 : ℕ) : ℤ)).toNat = 0 from by decide]
    omega

/-- The reference's logistic function is the ideal one. -/
theorem logistic_word (z : EReal) :
    Ideal.div (Ideal.ofBits .f32 0x3F800000#32) (Ideal.ofBits .f32 0x3F800000#32 + Ideal.exp (-z)) = Ideal.logistic z := by
  rw [Ideal.ofBits_one_f32]
  rfl

/-- The loop's state after `n` trips. -/
def trips : ℕ → State Ideal
  | 0 => init (F := Ideal) wh x w b
  | n + 1 => step n (trips n)

/-- No trip changes the precomputed input part; -/
theorem trips_inputs : ∀ n, (trips x w wh b n).main_v7_0 = A_main_v6 (F := Ideal) x w b
  | 0 => rfl
  | n + 1 => trips_inputs n

/-- nor the recurrent weights. -/
theorem trips_weights : ∀ n, (trips x w wh b n).main_v7_1 = wh
  | 0 => rfl
  | n + 1 => trips_weights n

/-- The gates of trip `n` are the recurrence's. -/
theorem gates_eq (n : ℕ) (hn : n < 512) (s : State Ideal) (hx : s.main_v7_0 = A_main_v6 (F := Ideal) x w b) (hw : s.main_v7_1 = wh) :
    b5 (F := Ideal) n s = raw (drive x w b n) wh s.main_v7_3 := by
  funext j
  obtain ⟨i, k, rfl⟩ : ∃ (i : Fin 128) (k : Fin 4096), j = ix2 i k := ⟨_, _, eq_ix2 j⟩
  show b3 (F := Ideal) n s (ix2 i k) + b4 (F := Ideal) n s (ix2 i k) = _
  refine congrArg₂ (· + ·) ?_ ?_
  · rw [slice_apply n hn, hx]
    exact inputs_apply x w b n hn i k
  · unfold b4
    rw [hw]
    exact StackMember.dotGeneral_plain_apply (m := 128) (k := 1024) (n := 4096) (φ₁ := .f32) (φ₂ := .f32) none _ _ i k

/-- A quarter of the gate array, read at a unit: the gate's column of that unit. -/
theorem quarter (q : Fin 4) (g : S128x4096.Idx → EReal) (h : S128x4096.Slices ![0, 1024 * q.val] S128x1024) (j : S128x1024.Idx) :
    extractStridedSlice S128x1024 ![0, 1024 * q.val] g h j = g (ix2 (j 0) (place q (j 1))) := by
  refine congrArg g (funext fun a => Fin.ext ?_)
  match a with
  | ⟨0, _⟩ => exact Nat.zero_add _
  | ⟨1, _⟩ => rfl

/-- The cell state a trip leaves, of its gates; -/
theorem cell_eq (n : ℕ) (s : State Ideal) : b37 (F := Ideal) n s = nextCell (b5 (F := Ideal) n s) s.main_v7_4 := by
  funext j
  have ei := quarter 0 (b5 (F := Ideal) n s) slices_S128x4096_S128x1024_0_0 j
  have ef := quarter 1 (b5 (F := Ideal) n s) slices_S128x4096_S128x1024_0_1024 j
  have eg := quarter 2 (b5 (F := Ideal) n s) slices_S128x4096_S128x1024_0_2048 j
  show Ideal.div (Ideal.ofBits .f32 0x3F800000#32) (Ideal.ofBits .f32 0x3F800000#32 + Ideal.exp (-(b7 (F := Ideal) n s j))) * s.main_v7_4 j
    + Ideal.div (Ideal.ofBits .f32 0x3F800000#32) (Ideal.ofBits .f32 0x3F800000#32 + Ideal.exp (-(b6 (F := Ideal) n s j)))
      * Ideal.tanh (b8 (F := Ideal) n s j) = _
  rw [logistic_word, logistic_word]
  exact congrArg₂ (· + ·) (congrArg (fun z => Ideal.logistic z * s.main_v7_4 j) ef)
    (congrArg₂ (fun z z' => Ideal.logistic z * Ideal.tanh z') ei eg)

/-- and the hidden state. -/
theorem hidden_eq (n : ℕ) (s : State Ideal) :
    b39 (F := Ideal) n s = nextHidden (b5 (F := Ideal) n s) (b37 (F := Ideal) n s) := by
  funext j
  have eo := quarter 3 (b5 (F := Ideal) n s) slices_S128x4096_S128x1024_0_3072 j
  show Ideal.div (Ideal.ofBits .f32 0x3F800000#32) (Ideal.ofBits .f32 0x3F800000#32 + Ideal.exp (-(b9 (F := Ideal) n s j)))
    * Ideal.tanh (b37 (F := Ideal) n s j) = _
  rw [logistic_word]
  exact congrArg (fun z => Ideal.logistic z * Ideal.tanh (b37 (F := Ideal) n s j)) eo

/-- After `n` trips, up to the loop's 512, the reference holds the recurrence's states after `n` steps. -/
theorem trips_states : ∀ n, n ≤ 512 →
    ((trips x w wh b n).main_v7_3, (trips x w wh b n).main_v7_4) = states (drive x w b) wh n
  | 0, _ => Prod.ext (funext fun _ => Ideal.ofBits_zero_f32) (funext fun _ => Ideal.ofBits_zero_f32)
  | n + 1, hn => by
    have ih := trips_states n (by omega)
    have hg := gates_eq x w wh b n (by omega) _ (trips_inputs x w wh b n) (trips_weights x w wh b n)
    show (b39 (F := Ideal) n (trips x w wh b n), b37 (F := Ideal) n (trips x w wh b n)) = advance (drive x w b n) wh (states (drive x w b) wh n)
    rw [hidden_eq, cell_eq, hg, ← ih]
    rfl

/-- The trips of the memory `m'` a run starts from, on the core `c`. -/
def tripsOf (m' : (ℓ : Loc nD τ sig) → Buf (Elt Ideal) ℓ) (c : Dev nD) (n : ℕ) : State Ideal :=
  trips (m' ((c.tc : Thread nD τ).loc main_arg0)) (m' ((c.tc : Thread nD τ).loc main_arg1)) (m' ((c.tc : Thread nD τ).loc main_arg2))
    (m' ((c.tc : Thread nD τ).loc main_arg3)) n

/-- They start at the initial state, -/
theorem tripsOf_zero (m' : (ℓ : Loc nD τ sig) → Buf (Elt Ideal) ℓ) (c : Dev nD) : tripsOf m' c 0 = Cert.ReferenceIdeal.StepRun.initState m' c := by
  unfold tripsOf trips
  rfl

/-- and go on by the loop's step. -/
theorem tripsOf_succ (m' : (ℓ : Loc nD τ sig) → Buf (Elt Ideal) ℓ) (c : Dev nD) (n : ℕ) :
    tripsOf m' c (n + 1) = step n (tripsOf m' c n) := by
  unfold tripsOf
  rw [trips]

end Cert.ReferenceIdeal.Trips
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.StepRun
public import proofs.«01_k».proof.Proof.Fold
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore to leave nonzero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- On the same arguments the kernel and the reference leave the same hidden and cell states: both those of the plain
    recurrence after its 512 steps. -/
theorem same_results : Cert.algebraic_KernelIdeal_ReferenceIdeal := by
  intro m g m' g' _ hargs
  have hr : ∀ c, ((Cert.ReferenceIdeal.Trips.tripsOf m' c 512).main_v7_3, (Cert.ReferenceIdeal.Trips.tripsOf m' c 512).main_v7_4)
      = Cert.KernelIdeal.Chunks.reached m c 512 := by
    intro c
    obtain ⟨h0, h1, h2, h3⟩ := hargs c
    unfold Cert.ReferenceIdeal.Trips.tripsOf
    rw [h0, h1, h2, h3]
    exact Cert.ReferenceIdeal.Trips.trips_states _ _ _ _ 512 (Nat.le_refl _)
  have hk := Cert.KernelIdeal.Value.run (F := Ideal) m g
  have hs := Cert.ReferenceIdeal.StepRun.run_iter (F := Ideal) m' g' (Cert.ReferenceIdeal.Trips.tripsOf m')
    (Cert.ReferenceIdeal.Trips.tripsOf_zero m') (Cert.ReferenceIdeal.Trips.tripsOf_succ m')
  exact ⟨fun c => (Cert.KernelIdeal.Chunks.reached m c 512).1, fun c => (Cert.KernelIdeal.Chunks.reached m c 512).2,
    (θ_run Cert.KernelIdeal.defs _ _).mono (fun r h c => ⟨(h c).1.trans (Cert.KernelIdeal.Chunks.result_hidden m c),
      (h c).2.1.trans (Cert.KernelIdeal.Chunks.result_cell m c), (h c).2.2⟩) hk,
    (θ_run Cert.ReferenceIdeal.defs _ _).mono (fun r h c => ⟨(h c).1.trans (congrArg Prod.fst (hr c)),
      (h c).2.1.trans (congrArg Prod.snd (hr c)), (h c).2.2⟩) hs⟩

/-- Every claim of this certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_results⟩

end Cert.Proof

end
